-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rois_in_unit [hPre_rois_in_unit : Cert.Pre_rois_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_in_unit [hPre_rois_in_unit : Cert.Pre_rois_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_in_unit [hKernelIdeal : Cert.KernelIdeal.Facts] [hPre_rois_in_unit : Cert.Pre_rois_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_in_unit [hReferenceIdeal : Cert.ReferenceIdeal.Facts] [hPre_rois_in_unit : Cert.Pre_rois_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "half_bin" .f32 0x3D924925#32 ((1 / 14 : ℝ) : EReal)

def algebraic_KernelIdeal_ReferenceIdeal_pre_rois_in_unit [hKernelIdeal : Cert.KernelIdeal.Facts] [hReferenceIdeal : Cert.ReferenceIdeal.Facts] [hPre_rois_in_unit : Cert.Pre_rois_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rois_in_unit : Cert.Pre_rois_in_unit.Facts),
    quiescent_Kernel (hKernel := hKernel)
    ∧ quiescent_KernelIdeal (hKernelIdeal := hKernelIdeal)
    ∧ quiescent_KernelIdeal_pre_rois_in_unit (hKernelIdeal := hKernelIdeal) (hPre_rois_in_unit := hPre_rois_in_unit)
    ∧ quiescent_ReferenceIdeal (hReferenceIdeal := hReferenceIdeal)
    ∧ quiescent_ReferenceIdeal_pre_rois_in_unit (hReferenceIdeal := hReferenceIdeal) (hPre_rois_in_unit := hPre_rois_in_unit)
    ∧ preserves_Kernel_KernelIdeal
    ∧ algebraic_KernelIdeal_ReferenceIdeal_pre_rois_in_unit (hKernelIdeal := hKernelIdeal) (hReferenceIdeal := hReferenceIdeal) (hPre_rois_in_unit := hPre_rois_in_unit)
-- ==== Pre_rois_in_unit.lean ====
abbrev S2x256x64x64 : Shape := ⟨4, ![2, 256, 64, 64]⟩
abbrev S1000x5 : Shape := ⟨2, ![1000, 5]⟩
abbrev S_ : Shape := ⟨0, ![]⟩

class Facts : Prop where
  bcast_S_S1000x5 : S_.BroadcastsInDim S1000x5 (![] : Fin 0 → Fin S1000x5.rank)

variable [Facts]

def fn {F : FTy → Type} [FloatOps F] (main_arg0 : FVec F S2x256x64x64 .f32) (main_arg1 : FVec F S1000x5 .f32) : IVec S1000x5 1 :=
  let main_cst : FVec F S_ .f32 := constant S_ .f32 0x00000000#32
  let main_v0 : FVec F S1000x5 .f32 := broadcastInDim S1000x5 ![] bcast_S_S1000x5 main_cst
  let main_v1 : IVec S1000x5 1 := cmpf .oge main_arg1 main_v0
  let main_cst_0 : FVec F S_ .f32 := constant S_ .f32 0x3F800000#32
  let main_v2 : FVec F S1000x5 .f32 := broadcastInDim S1000x5 ![] bcast_S_S1000x5 main_cst_0
  let main_v3 : IVec S1000x5 1 := cmpf .olt main_arg1 main_v2
  let main_v4 : IVec S1000x5 1 := andi main_v1 main_v3
  main_v4
-- ==== Kernel.lean ====
abbrev S2x256x64x64 : Shape := ⟨4, ![2, 256, 64, 64]⟩
abbrev S1000x5 : Shape := ⟨2, ![1000, 5]⟩
abbrev S1x256x3x3 : Shape := ⟨4, ![1, 256, 3, 3]⟩
abbrev S256x3x3 : Shape := ⟨3, ![256, 3, 3]⟩
abbrev S256x9 : Shape := ⟨2, ![256, 9]⟩
abbrev S9x256 : Shape := ⟨2, ![9, 256]⟩
abbrev S1000x1 : Shape := ⟨2, ![1000, 1]⟩
abbrev S1000 : Shape := ⟨1, ![1000]⟩
abbrev S1x1000 : Shape := ⟨2, ![1, 1000]⟩
abbrev S2x1000 : Shape := ⟨2, ![2, 1000]⟩
abbrev S2x1000x49 : Shape := ⟨3, ![2, 1000, 49]⟩
abbrev S2x49000 : Shape := ⟨2, ![2, 49000]⟩
abbrev S2x25x1960 : Shape := ⟨3, ![2, 25, 1960]⟩
abbrev S25x2x1960 : Shape := ⟨3, ![25, 2, 1960]⟩
abbrev S49000 : Shape := ⟨1, ![49000]⟩
abbrev S_ : Shape := ⟨0, ![]⟩
abbrev S1x49000 : Shape := ⟨2, ![1, 49000]⟩
abbrev S1000x256x49 : Shape := ⟨3, ![1000, 256, 49]⟩
abbrev S1000x256x7x7 : Shape := ⟨4, ![1000, 256, 7, 7]⟩
abbrev S1x2x1960 : Shape := ⟨3, ![1, 2, 1960]⟩
abbrev S40x256x49 : Shape := ⟨3, ![40, 256, 49]⟩
abbrev S1x1x1960 : Shape := ⟨3, ![1, 1, 1960]⟩
abbrev S1x1960 : Shape := ⟨2, ![1, 1960]⟩
abbrev S9x1960 : Shape := ⟨2, ![9, 1960]⟩
abbrev S1960x256 : Shape := ⟨2, ![1960, 256]⟩
abbrev S40x49x256 : Shape := ⟨3, ![40, 49, 256]⟩

abbrev nBuf : Space → Nat
  | .hbm => 101
  | .vmem => 7
  | .smem => 0
  | _ => 0

abbrev bufTy : (tb : Table) → Fin (tcTables nBuf tb) → BufTy
  | .hbm, ⟨0, _⟩ => ⟨S2x256x64x64, .f32⟩
  | .hbm, ⟨1, _⟩ => ⟨S1000x5, .f32⟩
  | .hbm, ⟨2, _⟩ => ⟨S1x256x3x3, .f32⟩
  | .hbm, ⟨3, _⟩ => ⟨S256x3x3, .f32⟩
  | .hbm, ⟨4, _⟩ => ⟨S256x9, .f32⟩
  | .hbm, ⟨5, _⟩ => ⟨S9x256, .f32⟩
  | .hbm, ⟨6, _⟩ => ⟨S1000x1, .f32⟩
  | .hbm, ⟨7, _⟩ => ⟨S1000, .f32⟩
  | .hbm, ⟨8, _⟩ => ⟨S1000x1, .f32⟩
  | .hbm, ⟨9, _⟩ => ⟨S1000, .f32⟩
  | .hbm, ⟨10, _⟩ => ⟨S1x1000, .f32⟩
  | .hbm, ⟨11, _⟩ => ⟨S1x1000, .f32⟩
  | .hbm, ⟨12, _⟩ => ⟨S2x1000, .f32⟩
  | .hbm, ⟨13, _⟩ => ⟨S2x1000x49, .f32⟩
  | .hbm, ⟨14, _⟩ => ⟨S2x49000, .f32⟩
  | .hbm, ⟨15, _⟩ => ⟨S2x25x1960, .f32⟩
  | .hbm, ⟨16, _⟩ => ⟨S25x2x1960, .f32⟩
  | .hbm, ⟨17, _⟩ => ⟨S49000, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S49000, .i32⟩
  | .hbm, ⟨25, _⟩ => ⟨S49000, .i32⟩
  | .hbm, ⟨26, _⟩ => ⟨S_, .i32⟩
  | .hbm, ⟨27, _⟩ => ⟨S49000, .i32⟩
  | .hbm, ⟨28, _⟩ => ⟨S49000, .i1⟩
  | .hbm, ⟨29, _⟩ => ⟨S_, .i32⟩
  | .hbm, ⟨30, _⟩ => ⟨S49000, .i32⟩
  | .hbm, ⟨31, _⟩ => ⟨S49000, .i1⟩
  | .hbm, ⟨32, _⟩ => ⟨S_, .i32⟩
  | .hbm, ⟨33, _⟩ => ⟨S_, .i1⟩
  | .hbm, ⟨34, _⟩ => ⟨S49000, .i1⟩
  | .hbm, ⟨35, _⟩ => ⟨S49000, .i1⟩
  | .hbm, ⟨36, _⟩ => ⟨S49000, .i1⟩
  | .hbm, ⟨37, _⟩ => ⟨S49000, .i32⟩
  | .hbm, ⟨38, _⟩ => ⟨S49000, .i32⟩
  | .hbm, ⟨39, _⟩ => ⟨S49000, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S49000, .i32⟩
  | .hbm, ⟨47, _⟩ => ⟨S49000, .i32⟩
  | .hbm, ⟨48, _⟩ => ⟨S_, .i32⟩
  | .hbm, ⟨49, _⟩ => ⟨S49000, .i32⟩
  | .hbm, ⟨50, _⟩ => ⟨S49000, .i1⟩
  | .hbm, ⟨51, _⟩ => ⟨S_, .i32⟩
  | .hbm, ⟨52, _⟩ => ⟨S49000, .i32⟩
  | .hbm, ⟨53, _⟩ => ⟨S49000, .i1⟩
  | .hbm, ⟨54, _⟩ => ⟨S_, .i32⟩
  | .hbm, ⟨55, _⟩ => ⟨S_, .i1⟩
  | .hbm, ⟨56, _⟩ => ⟨S49000, .i1⟩
  | .hbm, ⟨57, _⟩ => ⟨S49000, .i1⟩
  | .hbm, ⟨58, _⟩ => ⟨S49000, .i1⟩
  | .hbm, ⟨59, _⟩ => ⟨S49000, .i32⟩
  | .hbm, ⟨60, _⟩ => ⟨S49000, .i32⟩
  | .hbm, ⟨61, _⟩ => ⟨S49000, .i32⟩
  | .hbm, ⟨62, _⟩ => ⟨S49000, .f32⟩
  | .hbm, ⟨63, _⟩ => ⟨S_, .f32⟩
  | .hbm, ⟨64, _⟩ => ⟨S49000, .f32⟩
  | .hbm, ⟨65, _⟩ => ⟨S49000, .f32⟩
  | .hbm, ⟨66, _⟩ => ⟨S_, .f32⟩
  | .hbm, ⟨67, _⟩ => ⟨S49000, .f32⟩
  | .hbm, ⟨68, _⟩ => ⟨S49000, .f32⟩
  | .hbm, ⟨69, _⟩ => ⟨S_, .i32⟩
  | .hbm, ⟨70, _⟩ => ⟨S_, .i32⟩
  | .hbm, ⟨71, _⟩ => ⟨S49000, .i32⟩
  | .hbm, ⟨72, _⟩ => ⟨S49000, .i32⟩
  | .hbm, ⟨73, _⟩ => ⟨S49000, .i32⟩
  | .hbm, ⟨74, _⟩ => ⟨S_, .i32⟩
  | .hbm, ⟨75, _⟩ => ⟨S49000, .i32⟩
  | .hbm, ⟨76, _⟩ => ⟨S49000, .i1⟩
  | .hbm, ⟨77, _⟩ => ⟨S49000, .i32⟩
  | .hbm, ⟨78, _⟩ => ⟨S49000, .i32⟩
  | .hbm, ⟨79, _⟩ => ⟨S_, .i32⟩
  | .hbm, ⟨80, _⟩ => ⟨S49000, .i32⟩
  | .hbm, ⟨81, _⟩ => ⟨S49000, .i1⟩
  | .hbm, ⟨82, _⟩ => ⟨S49000, .i1⟩
  | .hbm, ⟨83, _⟩ => ⟨S_, .i32⟩
  | .hbm, ⟨84, _⟩ => ⟨S49000, .i32⟩
  | .hbm, ⟨85, _⟩ => ⟨S49000, .i32⟩
  | .hbm, ⟨86, _⟩ => ⟨S49000, .i32⟩
  | .hbm, ⟨87, _⟩ => ⟨S49000, .f32⟩
  | .hbm, ⟨88, _⟩ => ⟨S_, .f32⟩
  | .hbm, ⟨89, _⟩ => ⟨S49000, .f32⟩
  | .hbm, ⟨90, _⟩ => ⟨S49000, .f32⟩
  | .hbm, ⟨91, _⟩ => ⟨S_, .f32⟩
  | .hbm, ⟨92, _⟩ => ⟨S49000, .f32⟩
  | .hbm, ⟨93, _⟩ => ⟨S49000, .f32⟩
  | .hbm, ⟨94, _⟩ => ⟨S1x49000, .f32⟩
  | .hbm, ⟨95, _⟩ => ⟨S1x49000, .f32⟩
  | .hbm, ⟨96, _⟩ => ⟨S2x49000, .f32⟩
  | .hbm, ⟨97, _⟩ => ⟨S2x25x1960, .f32⟩
  | .hbm, ⟨98, _⟩ => ⟨S25x2x1960, .f32⟩
  | .hbm, ⟨99, _⟩ => ⟨S1000x256x49, .f32⟩
  | .hbm, ⟨100, _⟩ => ⟨S1000x256x7x7, .f32⟩
  | .local _ .vmem, ⟨0, _⟩ => ⟨S1x2x1960, .f32⟩
  | .local _ .vmem, ⟨1, _⟩ => ⟨S1x2x1960, .f32⟩
  | .local _ .vmem, ⟨2, _⟩ => ⟨S1x2x1960, .f32⟩
  | .local _ .vmem, ⟨3, _⟩ => ⟨S1x2x1960, .f32⟩
  | .local _ .vmem, ⟨4, _⟩ => ⟨S9x256, .f32⟩
  | .local _ .vmem, ⟨5, _⟩ => ⟨S40x256x49, .f32⟩
  | .local _ .vmem, ⟨6, _⟩ => ⟨S40x256x49, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_c : Ref sig .tc := ⟨.hbm, 18, rfl⟩
abbrev main_call0_call0_v0 : Ref sig .tc := ⟨.hbm, 19, rfl⟩
abbrev main_call0_call0_c : Ref sig .tc := ⟨.hbm, 20, rfl⟩
abbrev main_call0_call0_v1 : Ref sig .tc := ⟨.hbm, 21, rfl⟩
abbrev main_call0_call0_c_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_c_1 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_c_2 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_c_3 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_v16 : Ref sig .tc := ⟨.hbm, 39, rfl⟩
abbrev main_call0_c_0 : Ref sig .tc := ⟨.hbm, 40, rfl⟩
abbrev main_call0_call1_v0 : Ref sig .tc := ⟨.hbm, 41, rfl⟩
abbrev main_call0_call1_c : Ref sig .tc := ⟨.hbm, 42, rfl⟩
abbrev main_call0_call1_v1 : Ref sig .tc := ⟨.hbm, 43, rfl⟩
abbrev main_call0_call1_c_0 : Ref sig .tc := ⟨.hbm, 44, rfl⟩
abbrev main_call0_call1_v2 : Ref sig .tc := ⟨.hbm, 45, rfl⟩
abbrev main_call0_call1_v3 : Ref sig .tc := ⟨.hbm, 46, rfl⟩
abbrev main_call0_call1_v4 : Ref sig .tc := ⟨.hbm, 47, rfl⟩
abbrev main_call0_call1_c_1 : Ref sig .tc := ⟨.hbm, 48, rfl⟩
abbrev main_call0_call1_v5 : Ref sig .tc := ⟨.hbm, 49, rfl⟩
abbrev main_call0_call1_v6 : Ref sig .tc := ⟨.hbm, 50, rfl⟩
abbrev main_call0_call1_c_2 : Ref sig .tc := ⟨.hbm, 51, rfl⟩
abbrev main_call0_call1_v7 : Ref sig .tc := ⟨.hbm, 52, rfl⟩
abbrev main_call0_call1_v8 : Ref sig .tc := ⟨.hbm, 53, rfl⟩
abbrev main_call0_call1_c_3 : Ref sig .tc := ⟨.hbm, 54, rfl⟩
abbrev main_call0_call1_v9 : Ref sig .tc := ⟨.hbm, 55, rfl⟩
abbrev main_call0_call1_v10 : Ref sig .tc := ⟨.hbm, 56, rfl⟩
abbrev main_call0_call1_v11 : Ref sig .tc := ⟨.hbm, 57, rfl⟩
abbrev main_call0_call1_v12 : Ref sig .tc := ⟨.hbm, 58, rfl⟩
abbrev main_call0_call1_v13 : Ref sig .tc := ⟨.hbm, 59, rfl⟩
abbrev main_call0_call1_v14 : Ref sig .tc := ⟨.hbm, 60, rfl⟩
abbrev main_call0_v17 : Ref sig .tc := ⟨.hbm, 61, rfl⟩
abbrev main_call0_v18 : Ref sig .tc := ⟨.hbm, 62, rfl⟩
abbrev main_call0_cst : Ref sig .tc := ⟨.hbm, 63, rfl⟩
abbrev main_call0_v19 : Ref sig .tc := ⟨.hbm, 64, rfl⟩
abbrev main_call0_v20 : Ref sig .tc := ⟨.hbm, 65, rfl⟩
abbrev main_call0_cst_1 : Ref sig .tc := ⟨.hbm, 66, rfl⟩
abbrev main_call0_v21 : Ref sig .tc := ⟨.hbm, 67, rfl⟩
abbrev main_call0_v22 : Ref sig .tc := ⟨.hbm, 68, rfl⟩
abbrev main_call0_c_2 : Ref sig .tc := ⟨.hbm, 69, rfl⟩
abbrev main_call0_call2_v0 : Ref sig .tc := ⟨.hbm, 70, rfl⟩
abbrev main_call0_call2_v1 : Ref sig .tc := ⟨.hbm, 71, rfl⟩
abbrev main_call0_call2_v2 : Ref sig .tc := ⟨.hbm, 72, rfl⟩
abbrev main_call0_call2_v3 : Ref sig .tc := ⟨.hbm, 73, rfl⟩
abbrev main_call0_call2_v4 : Ref sig .tc := ⟨.hbm, 74, rfl⟩
abbrev main_call0_call2_v5 : Ref sig .tc := ⟨.hbm, 75, rfl⟩
abbrev main_call0_call2_v6 : Ref sig .tc := ⟨.hbm, 76, rfl⟩
abbrev main_call0_call2_v7 : Ref sig .tc := ⟨.hbm, 77, rfl⟩
abbrev main_call0_call2_v8 : Ref sig .tc := ⟨.hbm, 78, rfl⟩
abbrev main_call0_call2_c : Ref sig .tc := ⟨.hbm, 79, rfl⟩
abbrev main_call0_call2_v9 : Ref sig .tc := ⟨.hbm, 80, rfl⟩
abbrev main_call0_call2_v10 : Ref sig .tc := ⟨.hbm, 81, rfl⟩
abbrev main_call0_call2_v11 : Ref sig .tc := ⟨.hbm, 82, rfl⟩
abbrev main_call0_call2_c_0 : Ref sig .tc := ⟨.hbm, 83, rfl⟩
abbrev main_call0_call2_v12 : Ref sig .tc := ⟨.hbm, 84, rfl⟩
abbrev main_call0_call2_v13 : Ref sig .tc := ⟨.hbm, 85, rfl⟩
abbrev main_call0_v23 : Ref sig .tc := ⟨.hbm, 86, rfl⟩
abbrev main_call0_v24 : Ref sig .tc := ⟨.hbm, 87, rfl⟩
abbrev main_call0_cst_3 : Ref sig .tc := ⟨.hbm, 88, rfl⟩
abbrev main_call0_v25 : Ref sig .tc := ⟨.hbm, 89, rfl⟩
abbrev main_call0_v26 : Ref sig .tc := ⟨.hbm, 90, rfl⟩
abbrev main_call0_cst_4 : Ref sig .tc := ⟨.hbm, 91, rfl⟩
abbrev main_call0_v27 : Ref sig .tc := ⟨.hbm, 92, rfl⟩
abbrev main_call0_v28 : Ref sig .tc := ⟨.hbm, 93, rfl⟩
abbrev main_call0_v29 : Ref sig .tc := ⟨.hbm, 94, rfl⟩
abbrev main_call0_v30 : Ref sig .tc := ⟨.hbm, 95, rfl⟩
abbrev main_call0_v31 : Ref sig .tc := ⟨.hbm, 96, rfl⟩
abbrev main_call0_v32 : Ref sig .tc := ⟨.hbm, 97, rfl⟩
abbrev main_call0_v33 : Ref sig .tc := ⟨.hbm, 98, rfl⟩
abbrev main_call0_v34 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40x256x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "half_bin" => some ((1 / 14 : ℝ) : EReal)
  | _ => none
-- ==== ReferenceIdeal.lean ====
abbrev S2x256x64x64 : Shape := ⟨4, ![2, 256, 64, 64]⟩
abbrev S1000x5 : Shape := ⟨2, ![1000, 5]⟩
abbrev S1000x1 : Shape := ⟨2, ![1000, 1]⟩
abbrev S1000 : Shape := ⟨1, ![1000]⟩
abbrev S_ : Shape := ⟨0, ![]⟩
abbrev S7 : Shape := ⟨1, ![7]⟩
abbrev S2 : Shape := ⟨1, ![2]⟩
abbrev S7x1 : Shape := ⟨2, ![7, 1]⟩
abbrev S1x2 : Shape := ⟨2, ![1, 2]⟩
abbrev S7x2 : Shape := ⟨2, ![7, 2]⟩
abbrev S14 : Shape := ⟨1, ![14]⟩
abbrev S1x14 : Shape := ⟨2, ![1, 14]⟩
abbrev S1000x14 : Shape := ⟨2, ![1000, 14]⟩
abbrev S1000x1x1 : Shape := ⟨3, ![1000, 1, 1]⟩
abbrev S1000x14x1 : Shape := ⟨3, ![1000, 14, 1]⟩
abbrev S1000x1x14 : Shape := ⟨3, ![1000, 1, 14]⟩
abbrev S1000x14x14 : Shape := ⟨3, ![1000, 14, 14]⟩
abbrev S1000x14x14x1 : Shape := ⟨4, ![1000, 14, 14, 1]⟩
abbrev S1000x14x14x3 : Shape := ⟨4, ![1000, 14, 14, 3]⟩
abbrev S1000x14x14x256 : Shape := ⟨4, ![1000, 14, 14, 256]⟩
abbrev S1000x256x14x14 : Shape := ⟨4, ![1000, 256, 14, 14]⟩
abbrev S1000x256x7x2x7x2 : Shape := ⟨6, ![1000, 256, 7, 2, 7, 2]⟩
abbrev S1000x256x7x7 : Shape := ⟨4, ![1000, 256, 7, 7]⟩

abbrev nBuf : Space → Nat
  | .hbm => 280
  | .vmem => 0
  | .smem => 0
  | _ => 0

abbrev hbmTy0_0 (i : Nat) : BufTy := match i % 128 with
  | 0 => ⟨S2x256x64x64, .f32⟩
  | 1 => ⟨S1000x5, .f32⟩
  | 2 => ⟨S1000x1, .f32⟩
  | 3 => ⟨S1000, .f32⟩
  | 4 => ⟨S1000, .i32⟩
  | 5 => ⟨S_, .i32⟩
  | 6 => ⟨S_, .i32⟩
  | 7 => ⟨S_, .i32⟩
  | 8 => ⟨S1000, .i32⟩
  | 9 => ⟨S1000, .i32⟩
  | 10 => ⟨S_, .i32⟩
  | 11 => ⟨S1000, .i32⟩
  | 12 => ⟨S1000, .i32⟩
  | 13 => ⟨S1000x1, .f32⟩
  | 14 => ⟨S1000, .f32⟩
  | 15 => ⟨S_, .f32⟩
  | 16 => ⟨S1000, .f32⟩
  | 17 => ⟨S1000, .f32⟩
  | 18 => ⟨S1000x1, .f32⟩
  | 19 => ⟨S1000, .f32⟩
  | 20 => ⟨S_, .f32⟩
  | 21 => ⟨S1000, .f32⟩
  | 22 => ⟨S1000, .f32⟩
  | 23 => ⟨S1000x1, .f32⟩
  | 24 => ⟨S1000, .f32⟩
  | 25 => ⟨S_, .f32⟩
  | 26 => ⟨S1000, .f32⟩
  | 27 => ⟨S1000, .f32⟩
  | 28 => ⟨S1000x1, .f32⟩
  | 29 => ⟨S1000, .f32⟩
  | 30 => ⟨S_, .f32⟩
  | 31 => ⟨S1000, .f32⟩
  | 32 => ⟨S1000, .f32⟩
  | 33 => ⟨S1000, .f32⟩
  | 34 => ⟨S_, .f32⟩
  | 35 => ⟨S1000, .f32⟩
  | 36 => ⟨S1000, .f32⟩
  | 37 => ⟨S1000, .f32⟩
  | 38 => ⟨S_, .f32⟩
  | 39 => ⟨S1000, .f32⟩
  | 40 => ⟨S1000, .f32⟩
  | 41 => ⟨S_, .f32⟩
  | 42 => ⟨S1000, .f32⟩
  | 43 => ⟨S1000, .f32⟩
  | 44 => ⟨S_, .f32⟩
  | 45 => ⟨S1000, .f32⟩
  | 46 => ⟨S1000, .f32⟩
  | 47 => ⟨S7, .f32⟩
  | 48 => ⟨S2, .f32⟩
  | 49 => ⟨S_, .f32⟩
  | 50 => ⟨S2, .f32⟩
  | 51 => ⟨S2, .f32⟩
  | 52 => ⟨S_, .f32⟩
  | 53 => ⟨S2, .f32⟩
  | 54 => ⟨S2, .f32⟩
  | 55 => ⟨S7x1, .f32⟩
  | 56 => ⟨S1x2, .f32⟩
  | 57 => ⟨S7x2, .f32⟩
  | 58 => ⟨S7x2, .f32⟩
  | 59 => ⟨S7x2, .f32⟩
  | 60 => ⟨S14, .f32⟩
  | 61 => ⟨S1000x1, .f32⟩
  | 62 => ⟨S1x14, .f32⟩
  | 63 => ⟨S1000x1, .f32⟩
  | 64 => ⟨S1000x14, .f32⟩
  | 65 => ⟨S1000x14, .f32⟩
  | 66 => ⟨S1000x14, .f32⟩
  | 67 => ⟨S1000x14, .f32⟩
  | 68 => ⟨S1000x14, .f32⟩
  | 69 => ⟨S1000x1, .f32⟩
  | 70 => ⟨S1x14, .f32⟩
  | 71 => ⟨S1000x1, .f32⟩
  | 72 => ⟨S1000x14, .f32⟩
  | 73 => ⟨S1000x14, .f32⟩
  | 74 => ⟨S1000x14, .f32⟩
  | 75 => ⟨S1000x14, .f32⟩
  | 76 => ⟨S1000x14, .f32⟩
  | 77 => ⟨S_, .f32⟩
  | 78 => ⟨S_, .f32⟩
  | 79 => ⟨S_, .f32⟩
  | 80 => ⟨S1000x14, .f32⟩
  | 81 => ⟨S1000x14, .f32⟩
  | 82 => ⟨S_, .f32⟩
  | 83 => ⟨S1000x14, .f32⟩
  | 84 => ⟨S1000x14, .f32⟩
  | 85 => ⟨S_, .f32⟩
  | 86 => ⟨S_, .f32⟩
  | 87 => ⟨S_, .f32⟩
  | 88 => ⟨S1000x14, .f32⟩
  | 89 => ⟨S1000x14, .f32⟩
  | 90 => ⟨S_, .f32⟩
  | 91 => ⟨S1000x14, .f32⟩
  | 92 => ⟨S1000x14, .f32⟩
  | 93 => ⟨S1000x14, .f32⟩
  | 94 => ⟨S1000x14, .f32⟩
  | 95 => ⟨S1000x14, .i32⟩
  | 96 => ⟨S1000x14, .i32⟩
  | 97 => ⟨S_, .i32⟩
  | 98 => ⟨S1000x14, .i32⟩
  | 99 => ⟨S1000x14, .i32⟩
  | 100 => ⟨S_, .i32⟩
  | 101 => ⟨S1000x14, .i32⟩
  | 102 => ⟨S1000x14, .i32⟩
  | 103 => ⟨S_, .i32⟩
  | 104 => ⟨S1000x14, .i32⟩
  | 105 => ⟨S1000x14, .i32⟩
  | 106 => ⟨S_, .i32⟩
  | 107 => ⟨S1000x14, .i32⟩
  | 108 => ⟨S1000x14, .i32⟩
  | 109 => ⟨S1000x14, .f32⟩
  | 110 => ⟨S1000x14, .f32⟩
  | 111 => ⟨S_, .f32⟩
  | 112 => ⟨S1000x14, .f32⟩
  | 113 => ⟨S1000x14, .f32⟩
  | 114 => ⟨S_, .f32⟩
  | 115 => ⟨S1000x14, .f32⟩
  | 116 => ⟨S1000x14, .f32⟩
  | 117 => ⟨S1000x1x1, .i32⟩
  | 118 => ⟨S1000x14x1, .i32⟩
  | 119 => ⟨S1000x14x1, .i32⟩
  | 120 => ⟨S1000x1x14, .i32⟩
  | 121 => ⟨S1000x1x14, .i32⟩
  | 122 => ⟨S_, .i32⟩
  | 123 => ⟨S1000x1x1, .i32⟩
  | 124 => ⟨S1000x1x1, .i1⟩
  | 125 => ⟨S_, .i32⟩
  | 126 => ⟨S1000x1x1, .i32⟩
  | 127 => ⟨S1000x1x1, .i32⟩
  | _ => ⟨S2x256x64x64, .f32⟩

abbrev hbmTy0_1 (i : Nat) : BufTy := match i % 128 with
  | 0 => ⟨S1000x1x1, .i32⟩
  | 1 => ⟨S_, .i32⟩
  | 2 => ⟨S1000x14x1, .i32⟩
  | 3 => ⟨S1000x14x1, .i1⟩
  | 4 => ⟨S_, .i32⟩
  | 5 => ⟨S1000x14x1, .i32⟩
  | 6 => ⟨S1000x14x1, .i32⟩
  | 7 => ⟨S1000x14x1, .i32⟩
  | 8 => ⟨S_, .i32⟩
  | 9 => ⟨S1000x1x14, .i32⟩
  | 10 => ⟨S1000x1x14, .i1⟩
  | 11 => ⟨S_, .i32⟩
  | 12 => ⟨S1000x1x14, .i32⟩
  | 13 => ⟨S1000x1x14, .i32⟩
  | 14 => ⟨S1000x1x14, .i32⟩
  | 15 => ⟨S1000x14x14, .i32⟩
  | 16 => ⟨S1000x14x14, .i32⟩
  | 17 => ⟨S1000x14x14, .i32⟩
  | 18 => ⟨S1000x14x14x1, .i32⟩
  | 19 => ⟨S1000x14x14x1, .i32⟩
  | 20 => ⟨S1000x14x14x1, .i32⟩
  | 21 => ⟨S1000x14x14x3, .i32⟩
  | 22 => ⟨S1000x14x14x256, .f32⟩
  | 23 => ⟨S1000x14x1, .f32⟩
  | 24 => ⟨S1000x1x14, .f32⟩
  | 25 => ⟨S1000x14x14, .f32⟩
  | 26 => ⟨S1000x14x14, .f32⟩
  | 27 => ⟨S1000x14x14, .f32⟩
  | 28 => ⟨S1000x14x14x1, .f32⟩
  | 29 => ⟨S1000x14x14x256, .f32⟩
  | 30 => ⟨S1000x14x14x256, .f32⟩
  | 31 => ⟨S_, .i32⟩
  | 32 => ⟨S1000x1x1, .i32⟩
  | 33 => ⟨S1000x1x1, .i1⟩
  | 34 => ⟨S_, .i32⟩
  | 35 => ⟨S1000x1x1, .i32⟩
  | 36 => ⟨S1000x1x1, .i32⟩
  | 37 => ⟨S1000x1x1, .i32⟩
  | 38 => ⟨S_, .i32⟩
  | 39 => ⟨S1000x14x1, .i32⟩
  | 40 => ⟨S1000x14x1, .i1⟩
  | 41 => ⟨S_, .i32⟩
  | 42 => ⟨S1000x14x1, .i32⟩
  | 43 => ⟨S1000x14x1, .i32⟩
  | 44 => ⟨S1000x14x1, .i32⟩
  | 45 => ⟨S_, .i32⟩
  | 46 => ⟨S1000x1x14, .i32⟩
  | 47 => ⟨S1000x1x14, .i1⟩
  | 48 => ⟨S_, .i32⟩
  | 49 => ⟨S1000x1x14, .i32⟩
  | 50 => ⟨S1000x1x14, .i32⟩
  | 51 => ⟨S1000x1x14, .i32⟩
  | 52 => ⟨S1000x14x14, .i32⟩
  | 53 => ⟨S1000x14x14, .i32⟩
  | 54 => ⟨S1000x14x14, .i32⟩
  | 55 => ⟨S1000x14x14x1, .i32⟩
  | 56 => ⟨S1000x14x14x1, .i32⟩
  | 57 => ⟨S1000x14x14x1, .i32⟩
  | 58 => ⟨S1000x14x14x3, .i32⟩
  | 59 => ⟨S1000x14x14x256, .f32⟩
  | 60 => ⟨S1000x14x1, .f32⟩
  | 61 => ⟨S1000x1x14, .f32⟩
  | 62 => ⟨S1000x14x14, .f32⟩
  | 63 => ⟨S1000x14x14, .f32⟩
  | 64 => ⟨S1000x14x14, .f32⟩
  | 65 => ⟨S1000x14x14x1, .f32⟩
  | 66 => ⟨S1000x14x14x256, .f32⟩
  | 67 => ⟨S1000x14x14x256, .f32⟩
  | 68 => ⟨S1000x14x14x256, .f32⟩
  | 69 => ⟨S_, .i32⟩
  | 70 => ⟨S1000x1x1, .i32⟩
  | 71 => ⟨S1000x1x1, .i1⟩
  | 72 => ⟨S_, .i32⟩
  | 73 => ⟨S1000x1x1, .i32⟩
  | 74 => ⟨S1000x1x1, .i32⟩
  | 75 => ⟨S1000x1x1, .i32⟩
  | 76 => ⟨S_, .i32⟩
  | 77 => ⟨S1000x14x1, .i32⟩
  | 78 => ⟨S1000x14x1, .i1⟩
  | 79 => ⟨S_, .i32⟩
  | 80 => ⟨S1000x14x1, .i32⟩
  | 81 => ⟨S1000x14x1, .i32⟩
  | 82 => ⟨S1000x14x1, .i32⟩
  | 83 => ⟨S_, .i32⟩
  | 84 => ⟨S1000x1x14, .i32⟩
  | 85 => ⟨S1000x1x14, .i1⟩
  | 86 => ⟨S_, .i32⟩
  | 87 => ⟨S1000x1x14, .i32⟩
  | 88 => ⟨S1000x1x14, .i32⟩
  | 89 => ⟨S1000x1x14, .i32⟩
  | 90 => ⟨S1000x14x14, .i32⟩
  | 91 => ⟨S1000x14x14, .i32⟩
  | 92 => ⟨S1000x14x14, .i32⟩
  | 93 => ⟨S1000x14x14x1, .i32⟩
  | 94 => ⟨S1000x14x14x1, .i32⟩
  | 95 => ⟨S1000x14x14x1, .i32⟩
  | 96 => ⟨S1000x14x14x3, .i32⟩
  | 97 => ⟨S1000x14x14x256, .f32⟩
  | 98 => ⟨S1000x14x1, .f32⟩
  | 99 => ⟨S1000x1x14, .f32⟩
  | 100 => ⟨S1000x14x14, .f32⟩
  | 101 => ⟨S1000x14x14, .f32⟩
  | 102 => ⟨S1000x14x14, .f32⟩
  | 103 => ⟨S1000x14x14x1, .f32⟩
  | 104 => ⟨S1000x14x14x256, .f32⟩
  | 105 => ⟨S1000x14x14x256, .f32⟩
  | 106 => ⟨S1000x14x14x256, .f32⟩
  | 107 => ⟨S_, .i32⟩
  | 108 => ⟨S1000x1x1, .i32⟩
  | 109 => ⟨S1000x1x1, .i1⟩
  | 110 => ⟨S_, .i32⟩
  | 111 => ⟨S1000x1x1, .i32⟩
  | 112 => ⟨S1000x1x1, .i32⟩
  | 113 => ⟨S1000x1x1, .i32⟩
  | 114 => ⟨S_, .i32⟩
  | 115 => ⟨S1000x14x1, .i32⟩
  | 116 => ⟨S1000x14x1, .i1⟩
  | 117 => ⟨S_, .i32⟩
  | 118 => ⟨S1000x14x1, .i32⟩
  | 119 => ⟨S1000x14x1, .i32⟩
  | 120 => ⟨S1000x14x1, .i32⟩
  | 121 => ⟨S_, .i32⟩
  | 122 => ⟨S1000x1x14, .i32⟩
  | 123 => ⟨S1000x1x14, .i1⟩
  | 124 => ⟨S_, .i32⟩
  | 125 => ⟨S1000x1x14, .i32⟩
  | 126 => ⟨S1000x1x14, .i32⟩
  | 127 => ⟨S1000x1x14, .i32⟩
  | _ => ⟨S2x256x64x64, .f32⟩

abbrev hbmTy0_2 (i : Nat) : BufTy := match i % 128 with
  | 0 => ⟨S1000x14x14, .i32⟩
  | 1 => ⟨S1000x14x14, .i32⟩
  | 2 => ⟨S1000x14x14, .i32⟩
  | 3 => ⟨S1000x14x14x1, .i32⟩
  | 4 => ⟨S1000x14x14x1, .i32⟩
  | 5 => ⟨S1000x14x14x1, .i32⟩
  | 6 => ⟨S1000x14x14x3, .i32⟩
  | 7 => ⟨S1000x14x14x256, .f32⟩
  | 8 => ⟨S1000x14x1, .f32⟩
  | 9 => ⟨S1000x1x14, .f32⟩
  | 10 => ⟨S1000x14x14, .f32⟩
  | 11 => ⟨S1000x14x14, .f32⟩
  | 12 => ⟨S1000x14x14, .f32⟩
  | 13 => ⟨S1000x14x14x1, .f32⟩
  | 14 => ⟨S1000x14x14x256, .f32⟩
  | 15 => ⟨S1000x14x14x256, .f32⟩
  | 16 => ⟨S1000x14x14x256, .f32⟩
  | 17 => ⟨S1000x256x14x14, .f32⟩
  | 18 => ⟨S1000x256x7x2x7x2, .f32⟩
  | 19 => ⟨S_, .f32⟩
  | 20 => ⟨S1000x256x7x7, .f32⟩
  | 21 => ⟨S_, .f32⟩
  | 22 => ⟨S1000x256x7x7, .f32⟩
  | 23 => ⟨S1000x256x7x7, .f32⟩
  | _ => ⟨S2x256x64x64, .f32⟩

abbrev hbmTy (i : Nat) : BufTy := match i / 128 with
  | 0 => hbmTy0_0 i
  | 1 => hbmTy0_1 i
  | 2 => hbmTy0_2 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_cst_11 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v58 : Ref sig .tc := ⟨.hbm, 84, rfl⟩
abbrev main_cst_12 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_18 : Ref sig .tc := ⟨.hbm, 111, rfl⟩
abbrev main_v74 : Ref sig .tc := ⟨.hbm, 112, rfl⟩
abbrev main_v75 : Ref sig .tc := ⟨.hbm, 113, rfl⟩
abbrev main_cst_19 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_20 : Ref sig .tc := ⟨.hbm, 122, rfl⟩
abbrev main_v83 : Ref sig .tc := ⟨.hbm, 123, rfl⟩
abbrev main_v84 : Ref sig .tc := ⟨.hbm, 124, rfl⟩
abbrev main_c_21 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_22 : Ref sig .tc := ⟨.hbm, 129, rfl⟩
abbrev main_v88 : Ref sig .tc := ⟨.hbm, 130, rfl⟩
abbrev main_v89 : Ref sig .tc := ⟨.hbm, 131, rfl⟩
abbrev main_c_23 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_24 : Ref sig .tc := ⟨.hbm, 136, rfl⟩
abbrev main_v93 : Ref sig .tc := ⟨.hbm, 137, rfl⟩
abbrev main_v94 : Ref sig .tc := ⟨.hbm, 138, rfl⟩
abbrev main_c_25 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_26 : Ref sig .tc := ⟨.hbm, 159, rfl⟩
abbrev main_v114 : Ref sig .tc := ⟨.hbm, 160, rfl⟩
abbrev main_v115 : Ref sig .tc := ⟨.hbm, 161, rfl⟩
abbrev main_c_27 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_28 : Ref sig .tc := ⟨.hbm, 166, rfl⟩
abbrev main_v119 : Ref sig .tc := ⟨.hbm, 167, rfl⟩
abbrev main_v120 : Ref sig .tc := ⟨.hbm, 168, rfl⟩
abbrev main_c_29 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_c_30 : Ref sig .tc := ⟨.hbm, 173, rfl⟩
abbrev main_v124 : Ref sig .tc := ⟨.hbm, 174, rfl⟩
abbrev main_v125 : Ref sig .tc := ⟨.hbm, 175, rfl⟩
abbrev main_c_31 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_c_32 : Ref sig .tc := ⟨.hbm, 197, rfl⟩
abbrev main_v146 : Ref sig .tc := ⟨.hbm, 198, rfl⟩
abbrev main_v147 : Ref sig .tc := ⟨.hbm, 199, rfl⟩
abbrev main_c_33 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_34 : Ref sig .tc := ⟨.hbm, 204, rfl⟩
abbrev main_v151 : Ref sig .tc := ⟨.hbm, 205, rfl⟩
abbrev main_v152 : Ref sig .tc := ⟨.hbm, 206, rfl⟩
abbrev main_c_35 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_36 : Ref sig .tc := ⟨.hbm, 211, rfl⟩
abbrev main_v156 : Ref sig .tc := ⟨.hbm, 212, rfl⟩
abbrev main_v157 : Ref sig .tc := ⟨.hbm, 213, rfl⟩
abbrev main_c_37 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_c_38 : Ref sig .tc := ⟨.hbm, 235, rfl⟩
abbrev main_v178 : Ref sig .tc := ⟨.hbm, 236, rfl⟩
abbrev main_v179 : Ref sig .tc := ⟨.hbm, 237, rfl⟩
abbrev main_c_39 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_40 : Ref sig .tc := ⟨.hbm, 242, rfl⟩
abbrev main_v183 : Ref sig .tc := ⟨.hbm, 243, rfl⟩
abbrev main_v184 : Ref sig .tc := ⟨.hbm, 244, rfl⟩
abbrev main_c_41 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_c_42 : Ref sig .tc := ⟨.hbm, 249, rfl⟩
abbrev main_v188 : Ref sig .tc := ⟨.hbm, 250, rfl⟩
abbrev main_v189 : Ref sig .tc := ⟨.hbm, 251, rfl⟩
abbrev main_c_43 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_44 : Ref sig .tc := ⟨.hbm, 275, rfl⟩
abbrev main_v212 : Ref sig .tc := ⟨.hbm, 276, rfl⟩
abbrev main_cst_45 : Ref sig .tc := ⟨.hbm, 277, rfl⟩
abbrev main_v213 : Ref sig .tc := ⟨.hbm, 278, rfl⟩
abbrev main_v214 : Ref sig .tc := ⟨.hbm, 279, rfl⟩

abbrev nD : Nat := 1
abbrev τ : Topo := Topo.v7x

variable {F : FTy → Type} [FloatOps F]
-- ==== Proof.Hat.lean ====
/- The mathematics of one output element, with no program in it: bilinear interpolation at a coordinate in `[0, 2)` is a
   sum over the three lattice points 0, 1, 2 of hat functions, and the mean of four bilinear samples is one weighted sum
   over the nine lattice points of the 3 by 3 corner. -/
module

public import Idealize.ShloMosaic.PureOps.Ideal

@[expose] public section

noncomputable section

namespace Cert.Roi

/-- The hat function of lattice point `r` among 0, 1, 2 at coordinate `c`: the outer two as clamped lines, the middle one
    as what they leave of one. -/
def hat : ℕ → ℝ → ℝ
  | 0, c => max 0 (1 - c)
  | 1, c => 1 - max 0 (1 - c) - max 0 (c - 1)
  | _, c => max 0 (c - 1)

theorem hat_lo {c : ℝ} (h1 : c < 1) : hat 0 c = 1 - c ∧ hat 1 c = c ∧ hat 2 c = 0 := by
  have e0 : max 0 (1 - c) = 1 - c := max_eq_right (by linarith)
  have e2 : max 0 (c - 1) = 0 := max_eq_left (by linarith)
  refine ⟨e0, ?_, e2⟩
  simp only [hat, e0, e2]; ring

theorem hat_hi {c : ℝ} (h1 : 1 ≤ c) : hat 0 c = 0 ∧ hat 1 c = 1 - (c - 1) ∧ hat 2 c = c - 1 := by
  have e0 : max 0 (1 - c) = 0 := max_eq_left (by linarith)
  have e2 : max 0 (c - 1) = c - 1 := max_eq_right (by linarith)
  refine ⟨e0, ?_, e2⟩
  simp only [hat, e0, e2]; ring

/-- Inside `[0, 2)` every hat is nonnegative. -/
theorem hat_nonneg {c : ℝ} (h0 : 0 ≤ c) (h2 : c < 2) (r : ℕ) : 0 ≤ hat r c := by
  rcases lt_or_ge c 1 with h | h
  · obtain ⟨e0, e1, e2⟩ := hat_lo h
    match r with
    | 0 => rw [e0]; linarith
    | 1 => rw [e1]; exact h0
    | _ + 2 => exact e2.ge
  · obtain ⟨e0, e1, e2⟩ := hat_hi h
    match r with
    | 0 => exact e0.ge
    | 1 => rw [e1]; linarith
    | _ + 2 => exact (show (0 : ℝ) ≤ c - 1 by linarith).trans e2.ge

/-- The lattice point below a coordinate in `[0, 2)`. -/
def base (c : ℝ) : ℕ := if c < 1 then 0 else 1

theorem base_le (c : ℝ) : base c ≤ 1 := by unfold base; split <;> omega

theorem floor_eq_base {c : ℝ} (h0 : 0 ≤ c) (h2 : c < 2) : ⌊c⌋ = (base c : ℤ) := by
  unfold base
  split
  next h => exact Int.floor_eq_iff.mpr ⟨by simpa using h0, by simpa using h⟩
  next h => exact Int.floor_eq_iff.mpr ⟨by simpa using not_lt.mp h, by push_cast; linarith⟩

/-- The bilinear sample of `X` at `(y, x)`, as the four-corner formula writes it. -/
def bil (X : ℕ → ℕ → EReal) (y x : ℝ) : EReal :=
  X (base y) (base x) * (((1 - (y - base y)) * (1 - (x - base x)) : ℝ) : EReal)
    + X (base y) (base x + 1) * (((1 - (y - base y)) * (x - base x) : ℝ) : EReal)
    + X (base y + 1) (base x) * (((y - base y) * (1 - (x - base x)) : ℝ) : EReal)
    + X (base y + 1) (base x + 1) * (((y - base y) * (x - base x) : ℝ) : EReal)

/-- The weighted sum over the 3 by 3 corner, row by row. -/
def nine (W : ℕ → ℕ → ℝ) (X : ℕ → ℕ → EReal) : EReal :=
  ∑ k : Fin 9, (W (k.val / 3) (k.val % 3) : EReal) * X (k.val / 3) (k.val % 3)

/-- A bilinear sample is the hat-weighted sum over the corner. -/
theorem bil_eq_nine (X : ℕ → ℕ → EReal) {y x : ℝ} :
    bil X y x = nine (fun r s => hat r y * hat s x) X := by
  unfold bil nine base
  simp only [Fin.sum_univ_succ, Fin.sum_univ_zero, Fin.val_succ, Fin.val_zero, Nat.reduceAdd, Nat.reduceDiv, Nat.reduceMod, zero_add]
  rcases lt_or_ge y 1 with hy | hy <;> rcases lt_or_ge x 1 with hx | hx
  all_goals first
    | (obtain ⟨a0, a1, a2⟩ := hat_lo hy)
    | (obtain ⟨a0, a1, a2⟩ := hat_hi hy)
  all_goals first
    | (obtain ⟨b0, b1, b2⟩ := hat_lo hx)
    | (obtain ⟨b0, b1, b2⟩ := hat_hi hx)
  all_goals
    simp only [hy, hx, not_lt.mpr, if_true, if_false, a0, a1, a2, b0, b1, b2, mul_zero, zero_mul, EReal.coe_zero, add_zero, zero_add,
      Nat.cast_zero, Nat.cast_one, sub_zero, Nat.reduceAdd]
    simp only [mul_comm (X _ _), add_assoc]

/-- Two corner sums with nonnegative weights are the corner sum of the added weights. -/
theorem nine_add (W W' : ℕ → ℕ → ℝ) (X : ℕ → ℕ → EReal) (h : ∀ r s, 0 ≤ W r s) (h' : ∀ r s, 0 ≤ W' r s) :
    nine W X + nine W' X = nine (fun r s => W r s + W' r s) X := by
  unfold nine
  rw [← Finset.sum_add_distrib]
  refine Finset.sum_congr rfl fun k _ => ?_
  rw [EReal.coe_add, EReal.right_distrib_of_nonneg (EReal.coe_nonneg.mpr (h _ _)) (EReal.coe_nonneg.mpr (h' _ _))]

/-- A nonnegative real factor goes into a sum of extended reals. -/
theorem sum_mul_coe {ι : Type} (s : Finset ι) (f : ι → EReal) {q : ℝ} (hq : 0 ≤ q) :
    (∑ i ∈ s, f i) * (q : EReal) = ∑ i ∈ s, f i * (q : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.mpr hq) (EReal.coe_ne_top q) _ _

/-- A nonnegative real factor of a corner sum goes into the corner's values. -/
theorem nine_mul (W : ℕ → ℕ → ℝ) (X : ℕ → ℕ → EReal) {q : ℝ} (hq : 0 ≤ q) :
    nine W X * (q : EReal) = nine W (fun r s => X r s * (q : EReal)) := by
  unfold nine
  rw [sum_mul_coe _ _ hq]
  exact Finset.sum_congr rfl fun k _ => mul_assoc _ _ _

/-- THE IDENTITY: the mean of the four bilinear samples at `{y₀, y₁} × {x₀, x₁}` is the corner sum whose weight at
    `(r, s)` is the product of the two axes' hat sums, over the values scaled by a quarter. -/
theorem mean_eq_nine (X : ℕ → ℕ → EReal) {y0 y1 x0 x1 : ℝ} (hy0 : 0 ≤ y0 ∧ y0 < 2) (hy1 : 0 ≤ y1 ∧ y1 < 2)
    (hx0 : 0 ≤ x0 ∧ x0 < 2) (hx1 : 0 ≤ x1 ∧ x1 < 2) {q : ℝ} (hq : 0 ≤ q) :
    (bil X y0 x0 + bil X y0 x1 + (bil X y1 x0 + bil X y1 x1)) * (q : EReal)
      = nine (fun r s => (hat r y0 + hat r y1) * (hat s x0 + hat s x1)) (fun r s => X r s * (q : EReal)) := by
  have p := fun {a b : ℝ} (ha : 0 ≤ a ∧ a < 2) (hb : 0 ≤ b ∧ b < 2) (r s : ℕ) =>
    mul_nonneg (hat_nonneg ha.1 ha.2 r) (hat_nonneg hb.1 hb.2 s)
  rw [bil_eq_nine, bil_eq_nine, bil_eq_nine, bil_eq_nine, nine_add _ _ _ (p hy0 hx0) (p hy0 hx1),
    nine_add _ _ _ (p hy1 hx0) (p hy1 hx1),
    nine_add _ _ _ (fun r s => add_nonneg (p hy0 hx0 r s) (p hy0 hx1 r s)) (fun r s => add_nonneg (p hy1 hx0 r s) (p hy1 hx1 r s)),
    nine_mul _ _ hq]
  congr 1
  funext r s
  ring

end Cert.Roi

end
-- ==== Proof.Consts.lean ====
/- The float constants that the programs print, as the reals their words denote. -/
module

public import Idealize.ShloMosaic.PureOps.Ideal

@[expose] public section

noncomputable section

namespace Cert.Roi

open Idealize.ShloMosaic

theorem ofBits_sixteenth : Ideal.ofBits .f32 0x3D800000#32 = ((1 / 16 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_seven : Ideal.ofBits .f32 0x40E00000#32 = ((7 : ℝ) : EReal) := by
  simp [Ideal.ofBits, Ideal.ieee, -EReal.coe_mul]; norm_num

theorem ofBits_63 : Ideal.ofBits .f32 0x427C0000#32 = ((63 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

end Cert.Roi

end
-- ==== Proof.Scalars.lean ====
/- Operations of the ideal arithmetic on coerced reals and small index words, stated once for both programs. -/
module

public import proofs.«01_k».proof.Proof.Hat
public import proofs.«01_k».proof.Proof.Consts
public import Idealize.ShloMosaic.Lib.Pointwise
public import Idealize.ShloMosaic.Lib.WordCmp

@[expose] public section

noncomputable section

namespace Cert.Roi

open Idealize.ShloMosaic

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

/-- A quotient of reals by a nonzero real. -/
theorem div_real (a : ℝ) {b : ℝ} (hb : b ≠ 0) : Ideal.div (a : EReal) (b : EReal) = ((a * (1 / b) : ℝ) : EReal) := by
  rw [Ideal.div_coe hb, ← EReal.coe_mul]

/-- A small natural's word, converted to a float. -/
theorem sitofp_small {k : ℕ} (hk : k < 2 ^ 31) :
    FloatOps.sitofp (F := Ideal) .f32 (BitVec.ofNat 32 k) = ((k : ℝ) : EReal) := by
  show (((BitVec.ofNat 32 k).toInt : ℝ) : EReal) = _
  rw [WordCmp.toInt_ofNat_of_lt (by simpa using hk)]
  simp

/-- The floor of a coordinate in `[0, 2)` is its lower lattice point. -/
theorem floor_small {c : ℝ} (h0 : 0 ≤ c) (h2 : c < 2) : Ideal.liftRound Int.floor (c : EReal) = ((base c : ℝ) : EReal) := by
  rw [Ideal.liftRound_coe, floor_eq_base h0 h2]
  simp

/-- A small natural, converted to a word. -/
theorem fptosi_small {k : ℕ} (hk : k < 2) : FloatOps.fptosi (F := Ideal) (φ := .f32) 32 ((k : ℝ) : EReal) = BitVec.ofNat 32 k := by
  show BitVec.ofInt 32 (Ideal.toIntClamped _ _ ((k : ℝ) : EReal)) = _
  rw [Ideal.toIntClamped_coe, if_pos (Nat.cast_nonneg k), Int.floor_natCast]
  interval_cases k <;> rfl

/-- A real in `[0, 1)`, converted to a word, is the zero word. -/
theorem fptosi_unit {r : ℝ} (h0 : 0 ≤ r) (h1 : r < 1) : FloatOps.fptosi (F := Ideal) (φ := .f32) 32 (r : EReal) = 0#32 := by
  show BitVec.ofInt 32 (Ideal.toIntClamped _ _ (r : EReal)) = _
  rw [Ideal.toIntClamped_coe, if_pos h0, Int.floor_eq_zero_iff.mpr ⟨h0, h1⟩]
  rfl

end Cert.Roi

end
-- ==== Proof.KerEntry.lean ====
module

public import proofs.«01_k».proof.Proof.Gen.KernelIdeal.Frame
public import proofs.«01_k».proof.Proof.Scalars
public import Idealize.ShloMosaic.Lib.Pipeline.ValueKit
public import Idealize.ShloMosaic.Lib.Tactic.CleanTypes
public import Idealize.ShloMosaic.Lib.StableHlo.ReadAt
public import Idealize.ShloMosaic.Lib.Routing.Words

/-!
# What the host code of the kernel hands to the region

Three buffers: the nine corner values of the feature map, the two box coordinates of each lane, and the
two in-box offsets of each lane, which are computed from the lane number with integer arithmetic.
-/

@[expose] public section

set_option maxRecDepth 16384

noncomputable section

namespace Cert.Roi

open Idealize.ShloMosaic Idealize.ShloMosaic.TcCoe
open Cert.KernelIdeal Cert.KernelIdeal.Gen

/-! ## Small words -/

theorem guard49 : Scalar.select (IntOp.cmpi .eq 49#32 0#32) 1#32 49#32 = 49#32 := rfl
theorem guard7 : Scalar.select (IntOp.cmpi .eq 7#32 0#32) 1#32 7#32 = 7#32 := rfl

/-- The sign repair of a remainder leaves a nonnegative one as it is. -/
theorem repair {k : ℕ} (hk : k < 49) (d : BitVec 32) (hd : IntOp.cmpi .slt d 0#32 = 0#1) (w : BitVec 32) :
    Scalar.select (IntOp.andi (IntOp.cmpi .ne (IntOp.cmpi .slt (BitVec.ofNat 32 k) 0#32) (IntOp.cmpi .slt d 0#32))
      (IntOp.cmpi .ne (BitVec.ofNat 32 k) 0#32)) w (BitVec.ofNat 32 k) = BitVec.ofNat 32 k := by
  rw [hd]
  interval_cases k <;> rfl

/-- The sign repair of a quotient by seven leaves a nonnegative one as it is. -/
theorem divided {k : ℕ} (hk : k < 49) : Scalar.select
      (IntOp.andi
        (IntOp.cmpi .ne
          (if BitVec.ofNat 32 k = 0 then (0 : BitVec 32) else if BitVec.msb (BitVec.ofNat 32 k) = true then -1 else 1)
          (if 7#32 = 0 then (0 : BitVec 32) else if BitVec.msb 7#32 = true then -1 else 1))
        (IntOp.cmpi .ne (IntOp.remsi .host (BitVec.ofNat 32 k) 7#32) 0#32))
      (IntOp.subi (IntOp.divsi .host (BitVec.ofNat 32 k) 7#32) 1#32)
      (IntOp.divsi .host (BitVec.ofNat 32 k) 7#32) = BitVec.ofNat 32 (k / 7) := by
  rw [Routing.remsi_word _ (a := k) (b := 7) (by omega) (by omega) (by omega),
    Routing.divsi_word _ (a := k) (b := 7) (by omega) (by omega) (by omega)]
  interval_cases k <;> rfl

/-- The offset of a bin, from its number. -/
theorem offset_apply {k : ℕ} (hk : k < 49) :
    Ideal.div (FloatOps.sitofp (F := Ideal) .f32 (BitVec.ofNat 32 k) + Ideal.ofBits .f32 1048576000#32)
      (Ideal.ofBits .f32 1088421888#32) = ((((k : ℝ) + 1 / 4) * (1 / 7) : ℝ) : EReal) := by
  rw [sitofp_small (by omega), ofBits_quarter, ofBits_seven, ← EReal.coe_add, div_real _ (by norm_num)]

/-! ## The three buffers -/

variable (m : (ℓ : Loc nD τ sig) → Buf (Elt Ideal) ℓ) (c : Dev nD)

theorem V0_eq : V0 m c = StableHlo.after hostOps0 (fun b => m (c, b)) := by
  unfold V0
  rw [List.flatten_cons, List.flatten_nil, List.append_nil]

theorem after_pieces (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem V0_cut : V0 m c = StableHlo.after (List.drop 38 hostOps0)
    (StableHlo.after (List.take 38 hostOps0) (fun b => m (c, b))) := by
  rw [V0_eq]
  conv_lhs => rw [← List.take_append_drop 38 (hostOps0 (F := Ideal))]
  exact after_pieces _ _ _

set_option maxHeartbeats 4000000 in
theorem f_apply (k : Fin 9) (ch : Fin 256) :
    (V m c main_call0_v3 : Cert.KernelIdeal.S9x256.Idx → EReal) (ix2 k ch)
      = (m (c, Proc.devRef .tc main_arg0) : Cert.KernelIdeal.S2x256x64x64.Idx → EReal)
          (ix4 0 ch ⟨k.val / 3, by omega⟩ ⟨k.val % 3, by omega⟩) := by
  unfold V
  rw [V0_eq]
  unfold hostOps0
  after_reads_at

set_option maxHeartbeats 4000000 in
theorem coords_apply (i : Fin 25) (a : Fin 2) (l : Fin 1960) :
    (V m c main_call0_v14 : Cert.KernelIdeal.S25x2x1960.Idx → EReal) (ix3 i a l)
      = (m (c, Proc.devRef .tc main_arg1) : Cert.KernelIdeal.S1000x5.Idx → EReal)
          (ix2 ⟨(i.val * 1960 + l.val) / 49, by omega⟩ (if a.val < 1 then 1 else 2)) := by
  unfold V
  rw [V0_eq]
  unfold hostOps0
  after_reads_at
  after_reads_at
  by_cases h : a.val < 1
  · rw [dif_pos h, if_pos h]
  · rw [dif_neg h, if_neg h]

set_option maxHeartbeats 4000000 in
theorem lane_apply (j : Fin 49000) :
    StableHlo.after (List.take 38 hostOps0) (fun b => m (c, b)) (Proc.devRef .tc main_call0_v16) (ix1 j)
      = BitVec.ofNat 32 (j.val % 49) := by
  simp only [hostOps0, List.take_succ_cons, List.take_zero]
  after_reads_at
  simp only [id]
  pointwise
  rw [guard49, Routing.remsi_word _ (a := j.val) (b := 49) (by omega) (by omega) (by omega),
    repair (Nat.mod_lt _ (by omega)) _ rfl]

set_option maxHeartbeats 4000000 in
theorem table_apply (i : Fin 25) (a : Fin 2) (l : Fin 1960) :
    (V m c main_call0_v33 : Cert.KernelIdeal.S25x2x1960.Idx → EReal) (ix3 i a l)
      = (((((if a.val < 1 then (i.val * 1960 + l.val) % 49 % 7 else (i.val * 1960 + l.val) % 49 / 7 : ℕ) : ℝ)
          + 1 / 4) * (1 / 7) : ℝ) : EReal) := by
  unfold V
  rw [V0_cut]
  have hp := lane_apply m c
  generalize StableHlo.after (List.take 38 hostOps0) (fun b => m (c, b)) = W at hp ⊢
  simp only [hostOps0, List.drop_succ_cons, List.drop_zero]
  after_reads_at
  after_reads_at
  have hk : (i.val * 1960 + l.val) % 49 < 49 := Nat.mod_lt _ (by omega)
  have h7 : id (constantI S_ 32 7#32) ix0 = 7#32 := rfl
  have hw := hp ⟨i.val * 1960 + l.val, by omega⟩
  dsimp only at hw
  by_cases h : a.val < 1
  · refine (dif_pos h).trans ?_
    rw [if_pos h, hw, h7, guard7, Routing.remsi_word _ (a := (i.val * 1960 + l.val) % 49) (b := 7) (by omega) (by omega) (by omega),
      repair (k := (i.val * 1960 + l.val) % 49 % 7) (by omega) _ rfl, offset_apply (by omega)]
  · refine (dif_neg h).trans ?_
    rw [if_neg h, hw, h7, divided hk, offset_apply (by omega)]

end Cert.Roi

end
-- ==== Proof.KerValue.lean ====
module

public import proofs.«01_k».proof.Proof.KerEntry
public import proofs.«01_k».proof.Proof.Hat
public import proofs.«01_k».proof.Proof.Consts

@[expose] public section

set_option maxRecDepth 16384

noncomputable section

namespace Cert.Roi

open Idealize.ShloMosaic Idealize.ShloMosaic.TcCoe
open Cert.KernelIdeal Cert.KernelIdeal.Gen

theorem half_bin_eq : Named.named (F := Ideal) κ "half_bin" (φ := .f32) 0x3D924925#32 = ((1 / 14 : ℝ) : EReal) :=
  IdealRules.named_const.ideal_named_scalar _ _ _ _ rfl

/-- The two low clamped lines of an axis. -/
theorem low_eq (c : ℝ) : max 0 (1 - (c : EReal)) + max 0 (1 - ((c : EReal) + Named.named (F := Ideal) κ "half_bin" (φ := .f32) 0x3D924925#32))
    = ((hat 0 c + hat 0 (c + 1 / 14) : ℝ) : EReal) := by
  rw [half_bin_eq, ← EReal.coe_add, ← EReal.coe_one, ← EReal.coe_zero, ← EReal.coe_sub, ← EReal.coe_sub, max_coe, max_coe, ← EReal.coe_add]
  rfl

/-- The two high clamped lines of an axis. -/
theorem high_eq (c : ℝ) : max 0 ((c : EReal) - 1) + max 0 ((c : EReal) + Named.named (F := Ideal) κ "half_bin" (φ := .f32) 0x3D924925#32 - 1)
    = ((hat 2 c + hat 2 (c + 1 / 14) : ℝ) : EReal) := by
  rw [half_bin_eq, ← EReal.coe_add, ← EReal.coe_one, ← EReal.coe_zero, ← EReal.coe_sub, ← EReal.coe_sub, max_coe, max_coe, ← EReal.coe_add]
  rfl

/-- What the two leave of two. -/
theorem middle_eq (c : ℝ) : Ideal.ofBits .f32 1073741824#32 - ((hat 0 c + hat 0 (c + 1 / 14) : ℝ) : EReal) - ((hat 2 c + hat 2 (c + 1 / 14) : ℝ) : EReal)
    = ((hat 1 c + hat 1 (c + 1 / 14) : ℝ) : EReal) := by
  rw [ofBits_two, ← EReal.coe_sub, ← EReal.coe_sub]
  congr 1
  simp only [hat]
  ring

theorem pay5_apply (a b : FVec Ideal S1x1x1960 .f32) (z : Fin 1) (q : Fin 1960) {c : ℝ}
    (h : ∀ u w, a (ix3 u w q) * Ideal.ofBits .f32 0x3D800000#32 + b (ix3 u w q) = (c : EReal)) :
    k0_pay5 (F := Ideal) a b (ix2 z q) = ((hat 0 c + hat 0 (c + 1 / 14) : ℝ) : EReal) := by
  pointwise [k0_pay5, k0_pay4, k0_pay3]
  simp only [h, low_eq]

theorem pay6_apply (a b : FVec Ideal S1x1x1960 .f32) (z : Fin 1) (q : Fin 1960) {c : ℝ}
    (h : ∀ u w, a (ix3 u w q) * Ideal.ofBits .f32 0x3D800000#32 + b (ix3 u w q) = (c : EReal)) :
    k0_pay6 (F := Ideal) a b (ix2 z q) = ((hat 2 c + hat 2 (c + 1 / 14) : ℝ) : EReal) := by
  pointwise [k0_pay6, k0_pay4, k0_pay3]
  simp only [h, high_eq]

theorem pay7_apply (a b : FVec Ideal S1x1x1960 .f32) (z : Fin 1) (q : Fin 1960) {c : ℝ}
    (h : ∀ u w, a (ix3 u w q) * Ideal.ofBits .f32 0x3D800000#32 + b (ix3 u w q) = (c : EReal)) :
    k0_pay7 (F := Ideal) a b (ix2 z q) - k0_pay6 (F := Ideal) a b (ix2 z q) = ((hat 1 c + hat 1 (c + 1 / 14) : ℝ) : EReal) := by
  rw [pay6_apply a b z q h, ← middle_eq]
  pointwise [k0_pay7]
  rw [pay5_apply a b _ q h]

theorem pay12_apply (a b : FVec Ideal S1x1x1960 .f32) (z : Fin 1) (q : Fin 1960) {c : ℝ}
    (h : ∀ u w, a (ix3 u w q) * Ideal.ofBits .f32 0x3D800000#32 + b (ix3 u w q) = (c : EReal)) :
    k0_pay1 (F := Ideal) a (ix2 z q) + k0_pay2 (F := Ideal) b (ix2 z q) = (c : EReal) := by
  pointwise [k0_pay1, k0_pay2]
  exact h _ _

set_option maxHeartbeats 4000000 in
theorem pay8_apply (v3 v9 v23 v32 v34 : FVec Ideal S1x1960 .f32) (f : FVec Ideal S9x256 .f32) (i : Fin 40) (ch : Fin 256) (p : Fin 49)
    {c : ℝ} {A : ℕ → ℝ} {X : ℕ → ℕ → EReal}
    (hx : ∀ z, v3 (ix2 z ⟨i.val * 49 + p.val, by omega⟩) + v9 (ix2 z ⟨i.val * 49 + p.val, by omega⟩) = (c : EReal))
    (h0 : ∀ z, v23 (ix2 z ⟨i.val * 49 + p.val, by omega⟩) = (A 0 : EReal))
    (h1 : ∀ z, v34 (ix2 z ⟨i.val * 49 + p.val, by omega⟩) - v32 (ix2 z ⟨i.val * 49 + p.val, by omega⟩) = (A 1 : EReal))
    (h2 : ∀ z, v32 (ix2 z ⟨i.val * 49 + p.val, by omega⟩) = (A 2 : EReal))
    (hf : ∀ k : Fin 9, f (ix2 k ch) = X (k.val / 3) (k.val % 3)) :
    k0_pay8 v3 v9 v23 v32 v34 f (ix3 i ch p)
      = nine (fun r s => A r * (hat s c + hat s (c + 1 / 14))) (fun r s => X r s * ((1 / 4 : ℝ) : EReal)) := by
  pointwise [k0_pay8]
  unfold nine
  simp only [h1]
  simp only [hx, h0, h2, low_eq, high_eq, middle_eq, hf, ofBits_quarter, ← EReal.coe_mul]
  refine Finset.sum_congr rfl fun k _ => ?_
  fin_cases k <;> rfl

end Cert.Roi

end
-- ==== Proof.RefCoord.lean ====
/- The reference's sampling coordinates and index words at an index, over regions of interest with entries in `[0, 1)`. -/
module

public import proofs.«01_k».proof.Proof.Gen.ReferenceIdeal.Run
public import proofs.«01_k».proof.Proof.Scalars
public import Idealize.ShloMosaic.Lib.Tactic.CleanTypes
public import Idealize.ShloMosaic.Lib.Tactic.WordOmega

@[expose] public section

set_option maxRecDepth 16384

noncomputable section

namespace Cert.Roi

open Idealize.ShloMosaic Idealize.ShloMosaic.TcCoe
open Cert.ReferenceIdeal Cert.ReferenceIdeal.Value Cert.ReferenceIdeal.Gen

/-- The regions' entries are the reals `R`, all in `[0, 1)`. -/
structure InUnit (x : Cert.ReferenceIdeal.S1000x5.Idx → EReal) (R : Fin 1000 → Fin 5 → ℝ) : Prop where
  eq : ∀ n k, x (ix2 n k) = (R n k : EReal)
  lo : ∀ n k, 0 ≤ R n k
  hi : ∀ n k, R n k < 1

/-- Sampling coordinate `g` of 14 along an axis whose region starts at `r`: bin `g / 2`, sample `g % 2`, bins a seventh
    wide. -/
def samp (r : ℝ) (g : ℕ) : ℝ := r * (1 / 16) + (((g / 2 : ℕ) : ℝ) + (((g % 2 : ℕ) : ℝ) + 1 / 2) * (1 / 2)) * (1 / 7)

theorem samp_range {r : ℝ} (h0 : 0 ≤ r) (h1 : r < 1) {g : ℕ} (hg : g < 14) : 0 ≤ samp r g ∧ samp r g < 2 := by
  have a : ((g / 2 : ℕ) : ℝ) ≤ 6 := by exact_mod_cast (by omega : g / 2 ≤ 6)
  have b : ((g % 2 : ℕ) : ℝ) ≤ 1 := by exact_mod_cast (by omega : g % 2 ≤ 1)
  have a0 : (0 : ℝ) ≤ ((g / 2 : ℕ) : ℝ) := Nat.cast_nonneg _
  have b0 : (0 : ℝ) ≤ ((g % 2 : ℕ) : ℝ) := Nat.cast_nonneg _
  unfold samp
  constructor <;> linarith

variable (V0 : Valuation τ sig (Elt Ideal)) {R : Fin 1000 → Fin 5 → ℝ}

section
variable (hR : InUnit (V0 (Proc.devRef .tc main_arg1)) R)
include hR

theorem v11_apply (n : Fin 1000) : res_main_v11 V0 (ix1 n) = ((R n 2 * (1 / 16) : ℝ) : EReal) := by
  unfold res_main_v11
  clean_types
  pointwise
  rw [hR.eq, ofBits_sixteenth, EReal.coe_mul]

theorem v7_apply (n : Fin 1000) : res_main_v7 V0 (ix1 n) = ((R n 1 * (1 / 16) : ℝ) : EReal) := by
  unfold res_main_v7
  clean_types
  pointwise
  rw [hR.eq, ofBits_sixteenth, EReal.coe_mul]

omit hR in
theorem v41_apply (g : Fin 14) : res_main_v41 V0 (ix1 g)
    = ((((g.val / 2 : ℕ) : ℝ) + (((g.val % 2 : ℕ) : ℝ) + 1 / 2) * (1 / 2) : ℝ) : EReal) := by
  unfold res_main_v41
  clean_types
  pointwise
  rw [sitofp_small (by omega), sitofp_small (by omega), ofBits_half, ofBits_two, ← EReal.coe_add,
    div_real _ (by norm_num), ← EReal.coe_add]

omit hR in
/-- A sampling coordinate as the reference computes it: the bin's width is the maximum of a length under one and one. -/
theorem clip_samp {r q : ℝ} (h0 : 0 ≤ r) (h1 : r < 1) (hq0 : 0 ≤ q) (hq1 : q < 1) {g : ℕ} (hg : g < 14) :
    min ((63 : ℝ) : EReal) (max ((0 : ℝ) : EReal) (((r * (1 / 16) : ℝ) : EReal)
      + ((((g / 2 : ℕ) : ℝ) + (((g % 2 : ℕ) : ℝ) + 1 / 2) * (1 / 2) : ℝ) : EReal)
        * Ideal.div (max ((q : EReal) * ((1 / 16 : ℝ) : EReal) - ((r * (1 / 16) : ℝ) : EReal)) 1) ((7 : ℝ) : EReal)))
      = (samp r g : EReal) := by
  have e : max ((q : EReal) * ((1 / 16 : ℝ) : EReal) - ((r * (1 / 16) : ℝ) : EReal)) 1 = ((1 : ℝ) : EReal) := by
    rw [← EReal.coe_mul, ← EReal.coe_sub, ← EReal.coe_one, max_coe, max_eq_right (by linarith)]
  obtain ⟨p0, p2⟩ := samp_range h0 h1 hg
  rw [e, div_real _ (by norm_num), ← EReal.coe_mul, ← EReal.coe_add, one_mul, ← samp, max_coe, min_coe,
    max_eq_right p0, min_eq_right (by linarith)]

theorem v58_apply (n : Fin 1000) (g : Fin 14) : res_main_v58 V0 (ix2 n g) = (samp (R n 2) g.val : EReal) := by
  unfold res_main_v58
  clean_types
  pointwise
  simp only [id]
  pointwise
  rw [v11_apply V0 hR, v41_apply, hR.eq, ofBits_63, ofBits_seven, ofBits_sixteenth, ← EReal.coe_zero]
  exact clip_samp (hR.lo n 2) (hR.hi n 2) (hR.lo n 4) (hR.hi n 4) g.isLt

theorem v59_apply (n : Fin 1000) (g : Fin 14) : res_main_v59 V0 (ix2 n g) = (samp (R n 1) g.val : EReal) := by
  unfold res_main_v59
  clean_types
  pointwise
  simp only [id]
  pointwise
  rw [v7_apply V0 hR, v41_apply, hR.eq, ofBits_63, ofBits_seven, ofBits_sixteenth, ← EReal.coe_zero]
  exact clip_samp (hR.lo n 1) (hR.hi n 1) (hR.lo n 3) (hR.hi n 3) g.isLt

theorem v60_apply (n : Fin 1000) (g : Fin 14) : res_main_v60 V0 (ix2 n g) = ((base (samp (R n 2) g.val) : ℝ) : EReal) := by
  unfold res_main_v60
  clean_types
  pointwise
  obtain ⟨p0, p2⟩ := samp_range (hR.lo n 2) (hR.hi n 2) g.isLt
  rw [v58_apply V0 hR, floor_small p0 p2]

theorem v61_apply (n : Fin 1000) (g : Fin 14) : res_main_v61 V0 (ix2 n g) = ((base (samp (R n 1) g.val) : ℝ) : EReal) := by
  unfold res_main_v61
  clean_types
  pointwise
  obtain ⟨p0, p2⟩ := samp_range (hR.lo n 1) (hR.hi n 1) g.isLt
  rw [v59_apply V0 hR, floor_small p0 p2]

theorem v62_apply (n : Fin 1000) (g : Fin 14) : res_main_v62 V0 (ix2 n g) = BitVec.ofNat 32 (base (samp (R n 2) g.val)) := by
  unfold res_main_v62
  clean_types
  pointwise
  rw [v60_apply V0 hR]
  exact fptosi_small (Nat.lt_succ_of_le (base_le _))

theorem v63_apply (n : Fin 1000) (g : Fin 14) : res_main_v63 V0 (ix2 n g) = BitVec.ofNat 32 (base (samp (R n 1) g.val)) := by
  unfold res_main_v63
  clean_types
  pointwise
  rw [v61_apply V0 hR]
  exact fptosi_small (Nat.lt_succ_of_le (base_le _))

theorem v72_apply (n : Fin 1000) (g : Fin 14) :
    res_main_v72 V0 (ix2 n g) = ((samp (R n 2) g.val - base (samp (R n 2) g.val) : ℝ) : EReal) := by
  unfold res_main_v72
  clean_types
  pointwise
  rw [v58_apply V0 hR, v60_apply V0 hR, EReal.coe_sub]

theorem v73_apply (n : Fin 1000) (g : Fin 14) :
    res_main_v73 V0 (ix2 n g) = ((samp (R n 1) g.val - base (samp (R n 1) g.val) : ℝ) : EReal) := by
  unfold res_main_v73
  clean_types
  pointwise
  rw [v59_apply V0 hR, v61_apply V0 hR, EReal.coe_sub]

theorem v75_apply (n : Fin 1000) (g : Fin 14) :
    res_main_v75 V0 (ix2 n g) = ((1 - (samp (R n 2) g.val - base (samp (R n 2) g.val)) : ℝ) : EReal) := by
  unfold res_main_v75
  clean_types
  pointwise
  rw [v72_apply V0 hR, EReal.coe_sub 1, EReal.coe_one]

theorem v77_apply (n : Fin 1000) (g : Fin 14) :
    res_main_v77 V0 (ix2 n g) = ((1 - (samp (R n 1) g.val - base (samp (R n 1) g.val)) : ℝ) : EReal) := by
  unfold res_main_v77
  clean_types
  pointwise
  rw [v73_apply V0 hR, EReal.coe_sub 1, EReal.coe_one]

/-- The batch word, clipped into `{0, 1}`, is zero. -/
theorem v78_apply (n : Fin 1000) : res_main_v78 V0 (ix3 n 0 0) = 0#32 := by
  unfold res_main_v78
  clean_types
  pointwise
  rw [hR.eq, fptosi_unit (hR.lo n 0) (hR.hi n 0)]
  rfl

theorem v79_apply (n : Fin 1000) (g : Fin 14) : res_main_v79 V0 (ix3 n g 0) = BitVec.ofNat 32 (base (samp (R n 2) g.val)) := by
  unfold res_main_v79
  clean_types
  pointwise
  exact v62_apply V0 hR n g

theorem v81_apply (n : Fin 1000) (g : Fin 14) : res_main_v81 V0 (ix3 n 0 g) = BitVec.ofNat 32 (base (samp (R n 1) g.val)) := by
  unfold res_main_v81
  clean_types
  pointwise
  exact v63_apply V0 hR n g

omit hR in
theorem next_word {k : ℕ} (hk : k ≤ 1) : IntOp.minsi (IntOp.addi (BitVec.ofNat 32 k) 1#32) 63#32 = BitVec.ofNat 32 (k + 1) := by
  interval_cases k <;> rfl

theorem v80_apply (n : Fin 1000) (g : Fin 14) : res_main_v80 V0 (ix3 n g 0) = BitVec.ofNat 32 (base (samp (R n 2) g.val) + 1) := by
  unfold res_main_v80
  clean_types
  pointwise
  rw [v62_apply V0 hR]
  exact next_word (base_le _)

theorem v82_apply (n : Fin 1000) (g : Fin 14) : res_main_v82 V0 (ix3 n 0 g) = BitVec.ofNat 32 (base (samp (R n 1) g.val) + 1) := by
  unfold res_main_v82
  clean_types
  pointwise
  rw [v63_apply V0 hR]
  exact next_word (base_le _)

end

end Cert.Roi

end
-- ==== Proof.Gather.lean ====
/- The reference's gather read at an index: `features[b, :, y, x]` at three index words per sampling point. -/
module

public import Idealize.ShloMosaic.Lib.Pointwise

@[expose] public section

noncomputable section

namespace Cert.Roi

open Idealize.ShloMosaic

variable {α : Type}

/-- The dimension numbers of `features[b, :, y, x]` over index triples `[N, G, H, 3]`: the channel axis is the one offset
    axis, the other three operand axes are indexed. -/
abbrev pickDims (B C Y X N G H : Nat)
    (wf : GatherDims.WF ⟨4, ![B, C, Y, X]⟩ ⟨4, ![N, G, H, 3]⟩ ⟨4, ![N, G, H, C]⟩ [3] [0, 2, 3] [] [0, 2, 3] [] 3 ![1, C, 1, 1]) :
    GatherDims ⟨4, ![B, C, Y, X]⟩ ⟨4, ![N, G, H, 3]⟩ ⟨4, ![N, G, H, C]⟩ where
  offsetDims := [3]
  collapsedSliceDims := [0, 2, 3]
  operandBatchingDims := []
  startIndexMap := [0, 2, 3]
  startIndicesBatchingDims := []
  indexVectorDim := 3
  sliceSizes := ![1, C, 1, 1]
  wf := wf

/-- The gathered element: the operand at the three words, each read signed and clamped into its axis, at the channel. -/
theorem pick_apply {B C Y X N G H w : Nat} (hB : 0 < B) (hY : 0 < Y) (hX : 0 < X)
    (wf : GatherDims.WF ⟨4, ![B, C, Y, X]⟩ ⟨4, ![N, G, H, 3]⟩ ⟨4, ![N, G, H, C]⟩ [3] [0, 2, 3] [] [0, 2, 3] [] 3 ![1, C, 1, 1])
    (x : (⟨4, ![B, C, Y, X]⟩ : Shape).Idx → α) (idx : IVec ⟨4, ![N, G, H, 3]⟩ w) (n : Fin N) (g : Fin G) (h : Fin H) (c : Fin C) :
    Host.gather (pickDims B C Y X N G H wf) x idx (ix4 n g h c)
      = x (ix4 ⟨min (idx (ix4 n g h 0)).toInt.toNat (B - 1), by omega⟩ c
          ⟨min (idx (ix4 n g h 1)).toInt.toNat (Y - 1), by omega⟩ ⟨min (idx (ix4 n g h 2)).toInt.toNat (X - 1), by omega⟩) := by
  have indexed : ∀ (a : Fin 4) (ha : a ∈ ([0, 2, 3] : List (Fin 4))) (k : Fin 3), List.idxOf a ([0, 2, 3] : List (Fin 4)) = k.val →
      (pickDims B C Y X N G H wf).start (ix4 n g h c) idx a + (pickDims B C Y X N G H wf).batchCoord (ix4 n g h c) a
          + (pickDims B C Y X N G H wf).offCoord (ix4 n g h c) a
        = min (idx (ix4 n g h k)).toInt.toNat ((⟨4, ![B, C, Y, X]⟩ : Shape).size a - (![1, C, 1, 1] : Fin 4 → Nat) a) := by
    intro a ha k hk
    rw [GatherDims.batchCoord_eq_zero _ _ _ List.not_mem_nil,
      GatherDims.offCoord_eq_zero _ _ _ (fun hm => ((GatherDims.mem_sKept _ _).mp hm).1 ha)]
    unfold GatherDims.start
    rw [dif_pos (show a ∈ (pickDims B C Y X N G H wf).startIndexMap from ha)]
    have e : (pickDims B C Y X N G H wf).siIdx (ix4 n g h c)
        ⟨List.idxOf a (pickDims B C Y X N G H wf).startIndexMap, List.idxOf_lt_length_iff.2 ha⟩ = ix4 n g h k := by
      funext b
      refine Fin.ext ?_
      match b with
      | ⟨0, _⟩ => rfl
      | ⟨1, _⟩ => rfl
      | ⟨2, _⟩ => rfl
      | ⟨3, _⟩ => exact hk
    rw [e]
    rfl
  unfold Host.gather
  congr 1
  funext a
  refine Fin.ext ?_
  match a with
  | ⟨0, _⟩ => exact indexed 0 (by decide) 0 rfl
  | ⟨1, _⟩ =>
    show (pickDims B C Y X N G H wf).start _ idx 1 + (pickDims B C Y X N G H wf).batchCoord _ 1
      + (pickDims B C Y X N G H wf).offCoord (ix4 n g h c) 1 = c.val
    rw [GatherDims.batchCoord_eq_zero _ _ _ List.not_mem_nil]
    unfold GatherDims.start
    rw [dif_neg (show (1 : Fin 4) ∉ ([0, 2, 3] : List (Fin 4)) by decide), Nat.zero_add]
    rfl
  | ⟨2, _⟩ => exact indexed 2 (by decide) 1 rfl
  | ⟨3, _⟩ => exact indexed 3 (by decide) 2 rfl

end Cert.Roi

end
-- ==== Proof.BinSum.lean ====
/- The reference's mean over the two sampling axes of `[N, C, P, S, P, S]`, read at an index. -/
module

public import Idealize.ShloMosaic.Lib.Pointwise

@[expose] public section

noncomputable section

namespace Cert.Roi

open Idealize.ShloMosaic

variable {N C P S Q T : Nat}

/-- The entries that a sum over axes 3 and 5 brings to `(n, c, p, q)` are those with these kept coordinates. -/
theorem drop35_iff (h : (⟨6, ![N, C, P, S, Q, T]⟩ : Shape).ReducesTo [3, 5] ⟨4, ![N, C, P, Q]⟩) (n : Fin N) (c : Fin C) (p : Fin P)
    (q : Fin Q) (i : (⟨6, ![N, C, P, S, Q, T]⟩ : Shape).Idx) :
    h.drop i = ix4 n c p q ↔ ∃ k : Fin S × Fin T, ix6 n c p k.1 q k.2 = i := by
  constructor
  · intro e
    refine ⟨(i 3, i 5), funext fun a => Fin.ext ?_⟩
    have kept (b : Fin 4) := congrArg Fin.val (congrFun e b)
    match a with
    | ⟨0, _⟩ => exact (kept 0).symm
    | ⟨1, _⟩ => exact (kept 1).symm
    | ⟨2, _⟩ => exact (kept 2).symm
    | ⟨3, _⟩ => rfl
    | ⟨4, _⟩ => exact (kept 3).symm
    | ⟨5, _⟩ => rfl
  · rintro ⟨k, rfl⟩
    refine funext fun b => Fin.ext ?_
    match b with
    | ⟨0, _⟩ => rfl
    | ⟨1, _⟩ => rfl
    | ⟨2, _⟩ => rfl
    | ⟨3, _⟩ => rfl

/-- The sum over the two sampling axes. -/
theorem sum35 (h : (⟨6, ![N, C, P, S, Q, T]⟩ : Shape).ReducesTo [3, 5] ⟨4, ![N, C, P, Q]⟩)
    (v : (⟨6, ![N, C, P, S, Q, T]⟩ : Shape).Idx → EReal) (z : EReal) (n : Fin N) (c : Fin C) (p : Fin P) (q : Fin Q) :
    Ideal.hostReduceAdd h v z (ix4 n c p q) = z + ∑ a : Fin S, ∑ b : Fin T, v (ix6 n c p a q b) := by
  unfold Ideal.hostReduceAdd
  rw [Finset.sum_filter_eq_sum_of_fiber _ (fun k : Fin S × Fin T => ix6 n c p k.1 q k.2)
    (fun _ _ e => Prod.ext (congrFun e 3) (congrFun e 5)) (drop35_iff h n c p q) v, Fintype.sum_prod_type]

end Cert.Roi

end
-- ==== Proof.RefValue.lean ====
/- The reference at an index: the four gathers are a bilinear sample, and the result is the mean of four samples. -/
module

public import proofs.«01_k».proof.Proof.RefCoord
public import proofs.«01_k».proof.Proof.Gather
public import proofs.«01_k».proof.Proof.BinSum

@[expose] public section

set_option maxRecDepth 16384

noncomputable section

namespace Cert.Roi

open Idealize.ShloMosaic Idealize.ShloMosaic.TcCoe
open Cert.ReferenceIdeal Cert.ReferenceIdeal.Value Cert.ReferenceIdeal.Gen

/-- Channel `c` of image 0 as a function of natural coordinates. -/
def chan (x : Cert.ReferenceIdeal.S2x256x64x64.Idx → EReal) (c : Fin 256) (r s : ℕ) : EReal :=
  x (ix4 0 c ⟨min r 63, by omega⟩ ⟨min s 63, by omega⟩)

/-- The reference's gather at an index whose three words are zero and two small naturals. -/
theorem gather_chan (x : Cert.ReferenceIdeal.S2x256x64x64.Idx → EReal) (idx : IVec Cert.ReferenceIdeal.S1000x14x14x3 32)
    (n : Fin 1000) (g h : Fin 14) (c : Fin 256) {r s : ℕ} (hr : r < 64) (hs : s < 64) (e0 : idx (ix4 n g h 0) = 0#32)
    (e1 : idx (ix4 n g h 1) = BitVec.ofNat 32 r) (e2 : idx (ix4 n g h 2) = BitVec.ofNat 32 s) :
    Host.gather gather_S2x256x64x64_S1000x14x14x3_S1000x14x14x256_3_023_n_n_023_3_125611 x idx (ix4 n g h c) = chan x c r s := by
  refine (pick_apply (by omega) (by omega) (by omega) _ x idx n g h c).trans ?_
  have t : ∀ k : ℕ, k < 64 → (BitVec.ofNat 32 k).toInt.toNat = k := fun k hk => by
    rw [WordCmp.toInt_ofNat_of_lt (by omega)]; rfl
  unfold chan
  congr 2
  · refine Fin.ext ?_
    show min (idx (ix4 n g h 0)).toInt.toNat 1 = 0
    rw [e0]; rfl
  · refine Fin.ext ?_
    show min (idx (ix4 n g h 1)).toInt.toNat 63 = min r 63
    rw [e1, t r hr]
  · refine Fin.ext ?_
    show min (idx (ix4 n g h 2)).toInt.toNat 63 = min s 63
    rw [e2, t s hs]

/-- The wrap of a negative index leaves a small natural's word as it is. -/
theorem wrap_small {k : ℕ} (hk : k < 64) (w : BitVec 32) :
    Scalar.select (IntOp.cmpi .slt (BitVec.ofNat 32 k) 0#32) w (BitVec.ofNat 32 k) = BitVec.ofNat 32 k := by
  interval_cases k <;> rfl

/-- The gather over a table of index triples as the reference builds it: three word columns, each wrapped if negative and
    spread over the sampling points. -/
theorem gather_triple (x : Cert.ReferenceIdeal.S2x256x64x64.Idx → EReal) (wb : IVec Cert.ReferenceIdeal.S1000x1x1 32)
    (wy : IVec Cert.ReferenceIdeal.S1000x14x1 32) (wx : IVec Cert.ReferenceIdeal.S1000x1x14 32)
    (n : Fin 1000) (g h : Fin 14) (c : Fin 256) {r s : ℕ} (hr : r < 64) (hs : s < 64) (e0 : wb (ix3 n 0 0) = 0#32)
    (e1 : wy (ix3 n g 0) = BitVec.ofNat 32 r) (e2 : wx (ix3 n 0 h) = BitVec.ofNat 32 s) :
    Host.gather gather_S2x256x64x64_S1000x14x14x3_S1000x14x14x256_3_023_n_n_023_3_125611 x
      (concatenate S1000x14x14x3 3 [⟨S1000x14x14x1, broadcastInDim S1000x14x14x1 ![0, 1, 2] bcast_S1000x14x14_S1000x14x14x1_0_1_2 (broadcastInDim S1000x14x14 ![0, 1, 2] bcast_S1000x1x1_S1000x14x14_0_1_2 (select (cmpi .slt wb (broadcastInDim S1000x1x1 ![] bcast_S_S1000x1x1 (constantI S_ 32 0#32))) (addi wb (broadcastInDim S1000x1x1 ![] bcast_S_S1000x1x1 (constantI S_ 32 2#32))) wb))⟩,
        ⟨S1000x14x14x1, broadcastInDim S1000x14x14x1 ![0, 1, 2] bcast_S1000x14x14_S1000x14x14x1_0_1_2 (broadcastInDim S1000x14x14 ![0, 1, 2] bcast_S1000x14x1_S1000x14x14_0_1_2 (select (cmpi .slt wy (broadcastInDim S1000x14x1 ![] bcast_S_S1000x14x1 (constantI S_ 32 0#32))) (addi wy (broadcastInDim S1000x14x1 ![] bcast_S_S1000x14x1 (constantI S_ 32 64#32))) wy))⟩,
        ⟨S1000x14x14x1, broadcastInDim S1000x14x14x1 ![0, 1, 2] bcast_S1000x14x14_S1000x14x14x1_0_1_2 (broadcastInDim S1000x14x14 ![0, 1, 2] bcast_S1000x1x14_S1000x14x14_0_1_2 (select (cmpi .slt wx (broadcastInDim S1000x1x14 ![] bcast_S_S1000x1x14 (constantI S_ 32 0#32))) (addi wx (broadcastInDim S1000x1x14 ![] bcast_S_S1000x1x14 (constantI S_ 32 64#32))) wx))⟩]
        concatenates_S1000x14x14x1_S1000x14x14x1_S1000x14x14x1_S1000x14x14x3_d3)
      (ix4 n g h c) = chan x c r s := by
  refine gather_chan x _ n g h c hr hs ?_ ?_ ?_
  · pointwise
    rw [e0]
    exact wrap_small (k := 0) (by omega) _
  · pointwise
    rw [e1]
    exact wrap_small hr _
  · pointwise
    rw [e2]
    exact wrap_small hs _

variable (V0 : Valuation τ sig (Elt Ideal)) {R : Fin 1000 → Fin 5 → ℝ}
variable (hR : InUnit (V0 (Proc.devRef .tc main_arg1)) R)
include hR

/-- The first two corners of the sample. -/
theorem v145_apply (n : Fin 1000) (g h : Fin 14) (c : Fin 256) {Y X : ℝ} (hY : Y = samp (R n 2) g.val) (hX : X = samp (R n 1) h.val) :
    res_main_v145 V0 (ix4 n g h c)
      = chan (V0 (Proc.devRef .tc main_arg0)) c (base Y) (base X) * (((1 - (Y - base Y)) * (1 - (X - base X)) : ℝ) : EReal)
        + chan (V0 (Proc.devRef .tc main_arg0)) c (base Y) (base X + 1) * (((1 - (Y - base Y)) * (X - base X) : ℝ) : EReal) := by
  have bY := base_le Y
  have bX := base_le X
  unfold res_main_v145
  clean_types
  pointwise
  rw [gather_triple _ _ _ _ n g h c (r := base Y) (s := base X) (by omega) (by omega)
      (v78_apply V0 hR n) (hY ▸ v79_apply V0 hR n g) (hX ▸ v81_apply V0 hR n h),
    gather_triple _ _ _ _ n g h c (r := base Y) (s := base X + 1) (by omega) (by omega)
      (v78_apply V0 hR n) (hY ▸ v79_apply V0 hR n g) (hX ▸ v82_apply V0 hR n h),
    v75_apply V0 hR, v77_apply V0 hR, v73_apply V0 hR, ← hY, ← hX, EReal.coe_mul, EReal.coe_mul]

/-- All four corners: the bilinear sample. -/
theorem v209_apply (n : Fin 1000) (g h : Fin 14) (c : Fin 256) :
    res_main_v209 V0 (ix4 n g h c)
      = bil (chan (V0 (Proc.devRef .tc main_arg0)) c) (samp (R n 2) g.val) (samp (R n 1) h.val) := by
  obtain ⟨Y, hY⟩ : ∃ Y, Y = samp (R n 2) g.val := ⟨_, rfl⟩
  obtain ⟨X, hX⟩ : ∃ X, X = samp (R n 1) h.val := ⟨_, rfl⟩
  have bY := base_le Y
  have bX := base_le X
  rw [← hY, ← hX]
  unfold res_main_v209
  clean_types
  pointwise
  rw [v145_apply V0 hR n g h c hY hX,
    gather_triple _ _ _ _ n g h c (r := base Y + 1) (s := base X) (by omega) (by omega)
      (v78_apply V0 hR n) (hY ▸ v80_apply V0 hR n g) (hX ▸ v81_apply V0 hR n h),
    gather_triple _ _ _ _ n g h c (r := base Y + 1) (s := base X + 1) (by omega) (by omega)
      (v78_apply V0 hR n) (hY ▸ v80_apply V0 hR n g) (hX ▸ v82_apply V0 hR n h),
    v72_apply V0 hR, v77_apply V0 hR, v73_apply V0 hR, ← hY, ← hX]
  unfold bil
  simp only [EReal.coe_mul]

/-- What both programs compute at `(n, c, p, q)`: the corner sum with the hats of the bin's two samples per axis, over
    quarters of the channel. -/
def spec (x : Cert.ReferenceIdeal.S2x256x64x64.Idx → EReal) (R : Fin 1000 → Fin 5 → ℝ) (n : Fin 1000) (c : Fin 256) (p q : Fin 7) : EReal :=
  nine (fun r s => (hat r (samp (R n 2) (p.val * 2)) + hat r (samp (R n 2) (p.val * 2 + 1)))
      * (hat s (samp (R n 1) (q.val * 2)) + hat s (samp (R n 1) (q.val * 2 + 1))))
    (fun r s => chan x c r s * ((1 / 4 : ℝ) : EReal))

/-- The reference's result at an index. -/
theorem mean_apply (n : Fin 1000) (c : Fin 256) (p q : Fin 7) :
    (Host.divf (Host.reduceAdd (shapeCast _ (transpose S1000x256x14x14 [0, 3, 1, 2] (res_main_v209 V0) transposes_S1000x14x14x256_S1000x256x14x14_0_3_1_2) shapeCasts_S1000x256x14x14_S1000x256x7x2x7x2) (constant S_ .f32 0x00000000#32) reducesTo_S1000x256x7x2x7x2_S1000x256x7x7_d3_5 h_S_) (broadcastInDim S1000x256x7x7 ![] bcast_S_S1000x256x7x7 (constant S_ .f32 0x40800000#32)) : Cert.ReferenceIdeal.S1000x256x7x7.Idx → EReal) (ix4 n c p q)
      = spec (V0 (Proc.devRef .tc main_arg0)) R n c p q := by
  clean_types
  pointwise
  rw [sum35]
  pointwise
  have y (a : Fin 2) : 0 ≤ samp (R n 2) (p.val * 2 + a.val) ∧ samp (R n 2) (p.val * 2 + a.val) < 2 :=
    samp_range (hR.lo n 2) (hR.hi n 2) (by omega)
  have x (a : Fin 2) : 0 ≤ samp (R n 1) (q.val * 2 + a.val) ∧ samp (R n 1) (q.val * 2 + a.val) < 2 :=
    samp_range (hR.lo n 1) (hR.hi n 1) (by omega)
  simp only [v209_apply V0 hR, Fin.sum_univ_two]
  rw [ofBits_four, Ideal.div_coe (by norm_num)]
  exact mean_eq_nine (chan (V0 (Proc.devRef .tc main_arg0)) c) (y 0) (y 1) (x 0) (x 1) (by norm_num)

end Cert.Roi

end
-- ==== Proof.KerArray.lean ====
module

public import proofs.«01_k».proof.Proof.KerValue
public import proofs.«01_k».proof.Proof.RefValue

@[expose] public section

set_option maxRecDepth 16384

noncomputable section

namespace Cert.Roi

open Idealize.ShloMosaic Idealize.ShloMosaic.TcCoe
open Cert.KernelIdeal Cert.KernelIdeal.Gen

variable (m : (ℓ : Loc nD τ sig) → Buf (Elt Ideal) ℓ) (c : Dev nD)

/-- Block `t` of the two staged tables is row `t`, the corner values are staged whole, and block `t` of the result is its
    `t`-th slab of forty regions. -/
theorem idx : ∀ t : Fin cfg0.N, win0_0.index t = ![t.val, 0, 0] ∧ win0_1.index t = ![t.val, 0, 0] ∧ win0_2.index t = ![0, 0]
    ∧ win0_3.index t = ![t.val, 0, 0] := (by decide +kernel : ∀ t : Fin grid0.N, _)

theorem idx_out (t : Fin cfg0.N) : win0_3.index t = ![t.val, 0, 0] := (idx t).2.2.2

/-- The result array before its last reshape: bin `p` of region `n` and channel `ch`, bins numbered row by row. -/
def flatSpec (x : Cert.ReferenceIdeal.S2x256x64x64.Idx → EReal) (R : Fin 1000 → Fin 5 → ℝ) (n : Fin 1000) (ch : Fin 256) (p : Fin 49) : EReal :=
  spec x R n ch ⟨p.val / 7, by omega⟩ ⟨p.val % 7, by omega⟩

theorem samp_even {r : ℝ} {g : ℕ} : samp r (g * 2) = r * (1 / 16) + ((g : ℝ) + 1 / 4) * (1 / 7) := by
  rw [samp, show g * 2 / 2 = g by omega, show g * 2 % 2 = 0 by omega]
  push_cast
  ring

theorem samp_odd {r : ℝ} {g : ℕ} : samp r (g * 2 + 1) = samp r (g * 2) + 1 / 14 := by
  rw [samp_even, samp, show (g * 2 + 1) / 2 = g by omega, show (g * 2 + 1) % 2 = 1 by omega]
  push_cast
  ring

theorem lt25 (t : Fin cfg0.N) : t.val < 25 := t.isLt

/-! ## The staged blocks -/

theorem rois_block (t : Fin cfg0.N) (a : Fin 2) (q : Fin 1960) :
    (iblk m c 0 t : Cert.KernelIdeal.S1x2x1960.Idx → EReal) (ix3 0 a q)
      = (V m c main_call0_v14 : Cert.KernelIdeal.S25x2x1960.Idx → EReal) (ix3 ⟨t.val, lt25 t⟩ a q) := by
  blk_ext [iblk, idx t]

theorem table_block (t : Fin cfg0.N) (a : Fin 2) (q : Fin 1960) :
    (iblk m c 1 t : Cert.KernelIdeal.S1x2x1960.Idx → EReal) (ix3 0 a q)
      = (V m c main_call0_v33 : Cert.KernelIdeal.S25x2x1960.Idx → EReal) (ix3 ⟨t.val, lt25 t⟩ a q) := by
  blk_ext [iblk, idx t]

/-- Row 0 of a rois block, as the body loads it. -/
def roisRow0 (t : Fin cfg0.N) : FVec Ideal Cert.KernelIdeal.S1x1x1960 .f32 := View.ld (iblk m c 0 t) r0_0

theorem rois_row0 (t : Fin cfg0.N) (u w : Fin 1) (q : Fin 1960) :
    roisRow0 m c t (ix3 u w q)
      = (V m c main_call0_v14 : Cert.KernelIdeal.S25x2x1960.Idx → EReal) (ix3 ⟨t.val, lt25 t⟩ 0 q) := by
  refine (View.ld_unit_apply_of (iblk m c 0 t) _ _ _ (ix3 u w q) (ix3 0 0 q) fun a => ?_).trans (rois_block m c t 0 q)
  fin_cases a <;> simp

/-- Row 1 of a rois block, as the body loads it. -/
def roisRow1 (t : Fin cfg0.N) : FVec Ideal Cert.KernelIdeal.S1x1x1960 .f32 := View.ld (iblk m c 0 t) r0_1

theorem rois_row1 (t : Fin cfg0.N) (u w : Fin 1) (q : Fin 1960) :
    roisRow1 m c t (ix3 u w q)
      = (V m c main_call0_v14 : Cert.KernelIdeal.S25x2x1960.Idx → EReal) (ix3 ⟨t.val, lt25 t⟩ 1 q) := by
  refine (View.ld_unit_apply_of (iblk m c 0 t) _ _ _ (ix3 u w q) (ix3 0 1 q) fun a => ?_).trans (rois_block m c t 1 q)
  fin_cases a <;> simp

/-- Row 0 of a table block, as the body loads it. -/
def tableRow0 (t : Fin cfg0.N) : FVec Ideal Cert.KernelIdeal.S1x1x1960 .f32 := View.ld (iblk m c 1 t) r0_0

theorem table_row0 (t : Fin cfg0.N) (u w : Fin 1) (q : Fin 1960) :
    tableRow0 m c t (ix3 u w q)
      = (V m c main_call0_v33 : Cert.KernelIdeal.S25x2x1960.Idx → EReal) (ix3 ⟨t.val, lt25 t⟩ 0 q) := by
  refine (View.ld_unit_apply_of (iblk m c 1 t) _ _ _ (ix3 u w q) (ix3 0 0 q) fun a => ?_).trans (table_block m c t 0 q)
  fin_cases a <;> simp

/-- Row 1 of a table block, as the body loads it. -/
def tableRow1 (t : Fin cfg0.N) : FVec Ideal Cert.KernelIdeal.S1x1x1960 .f32 := View.ld (iblk m c 1 t) r0_1

theorem table_row1 (t : Fin cfg0.N) (u w : Fin 1) (q : Fin 1960) :
    tableRow1 m c t (ix3 u w q)
      = (V m c main_call0_v33 : Cert.KernelIdeal.S25x2x1960.Idx → EReal) (ix3 ⟨t.val, lt25 t⟩ 1 q) := by
  refine (View.ld_unit_apply_of (iblk m c 1 t) _ _ _ (ix3 u w q) (ix3 0 1 q) fun a => ?_).trans (table_block m c t 1 q)
  fin_cases a <;> simp

theorem corner_block (t : Fin cfg0.N) (k : Fin 9) (ch : Fin 256) :
    (iblk m c 2 t : Cert.KernelIdeal.S9x256.Idx → EReal) (ix2 k ch)
      = (V m c main_call0_v3 : Cert.KernelIdeal.S9x256.Idx → EReal) (ix2 k ch) := by
  blk_ext [iblk, idx t]

/-! ## The coordinates of a lane -/

theorem lane_x {R : Fin 1000 → Fin 5 → ℝ} (hR : InUnit (m (c, Proc.devRef .tc main_arg1)) R) (t : Fin cfg0.N)
    (i : Fin 40) (p : Fin 49) (u w : Fin 1) :
    roisRow0 m c t (ix3 u w ⟨i.val * 49 + p.val, by omega⟩)
        * Ideal.ofBits .f32 0x3D800000#32
      + tableRow0 m c t (ix3 u w ⟨i.val * 49 + p.val, by omega⟩)
      = ((samp (R ⟨t.val * 40 + i.val, by have := lt25 t; omega⟩ 1) (p.val % 7 * 2) : ℝ) : EReal) := by
  have ht := lt25 t
  rw [rois_row0, table_row0, coords_apply, table_apply, if_pos (by decide), if_pos (by decide), hR.eq, ofBits_sixteenth,
    ← EReal.coe_mul, ← EReal.coe_add, samp_even]
  have e : (⟨(t.val * 1960 + (i.val * 49 + p.val)) / 49, by omega⟩ : Fin 1000) = ⟨t.val * 40 + i.val, by omega⟩ := Fin.ext (by
    show (t.val * 1960 + (i.val * 49 + p.val)) / 49 = t.val * 40 + i.val
    omega)
  have e' : (t.val * 1960 + (i.val * 49 + p.val)) % 49 % 7 = p.val % 7 := by omega
  simp only [e, e']

theorem lane_y {R : Fin 1000 → Fin 5 → ℝ} (hR : InUnit (m (c, Proc.devRef .tc main_arg1)) R) (t : Fin cfg0.N)
    (i : Fin 40) (p : Fin 49) (u w : Fin 1) :
    roisRow1 m c t (ix3 u w ⟨i.val * 49 + p.val, by omega⟩)
        * Ideal.ofBits .f32 0x3D800000#32
      + tableRow1 m c t (ix3 u w ⟨i.val * 49 + p.val, by omega⟩)
      = ((samp (R ⟨t.val * 40 + i.val, by have := lt25 t; omega⟩ 2) (p.val / 7 * 2) : ℝ) : EReal) := by
  have ht := lt25 t
  rw [rois_row1, table_row1, coords_apply, table_apply, if_neg (by decide), if_neg (by decide), hR.eq, ofBits_sixteenth,
    ← EReal.coe_mul, ← EReal.coe_add, samp_even]
  have e : (⟨(t.val * 1960 + (i.val * 49 + p.val)) / 49, by omega⟩ : Fin 1000) = ⟨t.val * 40 + i.val, by omega⟩ := Fin.ext (by
    show (t.val * 1960 + (i.val * 49 + p.val)) / 49 = t.val * 40 + i.val
    omega)
  have e' : (t.val * 1960 + (i.val * 49 + p.val)) % 49 / 7 = p.val / 7 := by omega
  simp only [e, e']

/-! ## The result array -/

theorem body_apply {R : Fin 1000 → Fin 5 → ℝ} (hR : InUnit (m (c, Proc.devRef .tc main_arg1)) R) (t : Fin cfg0.N)
    (i : Fin 40) (ch : Fin 256) (p : Fin 49) :
    k0_pay8 (F := Ideal) (k0_pay1 (View.ld (iblk m c 0 t) r0_0)) (k0_pay2 (View.ld (iblk m c 1 t) r0_0))
      (k0_pay5 (View.ld (iblk m c 0 t) r0_1) (View.ld (iblk m c 1 t) r0_1))
      (k0_pay6 (View.ld (iblk m c 0 t) r0_1) (View.ld (iblk m c 1 t) r0_1))
      (k0_pay7 (View.ld (iblk m c 0 t) r0_1) (View.ld (iblk m c 1 t) r0_1)) (iblk m c 2 t) (ix3 i ch p)
      = flatSpec (m (c, Proc.devRef .tc main_arg0)) R ⟨t.val * 40 + i.val, by have := lt25 t; omega⟩ ch p := by
  have hx := lane_x m c hR t i p
  have hy := lane_y m c hR t i p
  refine (pay8_apply (A := fun r => hat r (samp (R ⟨t.val * 40 + i.val, by have := lt25 t; omega⟩ 2) (p.val / 7 * 2))
      + hat r (samp (R ⟨t.val * 40 + i.val, by have := lt25 t; omega⟩ 2) (p.val / 7 * 2) + 1 / 14))
    (X := chan (m (c, Proc.devRef .tc main_arg0)) ch) _ _ _ _ _ _ i ch p
    (fun z => pay12_apply _ _ z _ hx) (fun z => pay5_apply _ _ z _ hy) (fun z => pay7_apply _ _ z _ hy)
    (fun z => pay6_apply _ _ z _ hy) fun k => ?_).trans ?_
  · rw [corner_block, f_apply]
    unfold chan
    congr 2 <;> exact Fin.ext (by dsimp only; omega)
  · unfold flatSpec spec
    simp only [samp_odd]

theorem final {R : Fin 1000 → Fin 5 → ℝ} (hR : InUnit (m (c, Proc.devRef .tc main_arg1)) R) :
    (dats m 0 c).arrAt 3 (cfgs 0).N
      = (fun j : Cert.KernelIdeal.S1000x256x49.Idx => flatSpec (m (c, Proc.devRef .tc main_arg0)) R (j 0) (j 1) (j 2)) := by
  refine (dats m 0 c).arrAt_eq_of_covers 3 _ (by decide +kernel) fun t _ y => ?_
  blk_simp
  rw [after0_3]
  frame_out
  idx_vars y
  refine (body_apply m c hR t y0 y1 y2).trans ?_
  refine congr (congr (congrArg (flatSpec _ R) (Fin.ext ?_)) (Fin.ext ?_)) (Fin.ext ?_)
  all_goals blk_simp [idx_out t]

end Cert.Roi

end
-- ==== Proof.KerRun.lean ====
module

public import proofs.«01_k».proof.Proof.KerArray

/-!
# The kernel program's result

The trailing reshape splits the 49 bins of the output array into seven rows of seven.
-/

@[expose] public section

set_option maxRecDepth 16384

noncomputable section

namespace Cert.Roi

open Idealize.ShloMosaic Idealize.ShloMosaic.TcCoe
open Cert.KernelIdeal Cert.KernelIdeal.Gen

variable (m : (ℓ : Loc nD τ sig) → Buf (Elt Ideal) ℓ) (c : Dev nD)

/-- Distinct windows have distinct arrays. -/
theorem arr_inj : Function.Injective (Pipeline.arrRef spec0) := by decide

/-- The kernel program's result at an index, after the trailing reshape. -/
theorem result_apply {R : Fin 1000 → Fin 5 → ℝ} (hR : InUnit (m (c, Proc.devRef .tc main_arg1)) R)
    (n : Fin 1000) (ch : Fin 256) (p q : Fin 7) :
    (Pipeline.afterTail₀ cfgs (dats m) 0 (V0 m) [hostOps1] c main_v0 : Cert.KernelIdeal.S1000x256x7x7.Idx → EReal) (ix4 n ch p q)
      = spec (m (c, Proc.devRef .tc main_arg0)) R n ch p q := by
  unfold Pipeline.afterTail₀
  rw [List.flatten_cons, List.flatten_nil, List.append_nil]
  have e := (Pipeline.withArrays_arr spec0 arr_inj c (V0 m c) (fun w => (dats m 0 c).arrAt w (cfgs 0).N) 3).trans (final m c hR)
  generalize hW : Pipeline.withArrays spec0 c (V0 m c) _ = W at e ⊢
  unfold hostOps1
  after_reads_at
  refine (congrFun e (ix3 n ch ⟨p.val * 7 + q.val, by omega⟩)).trans ?_
  exact congr (congrArg (spec _ R n ch) (Fin.ext (show (p.val * 7 + q.val) / 7 = p.val by omega)))
    (Fin.ext (show (p.val * 7 + q.val) % 7 = q.val by omega))

end Cert.Roi

end
-- ==== Proof.Range.lean ====
module

public import proofs.«01_k».proof.Proof.RefCoord
public import proofs.«01_k».proof.Proof.Gen.Pre_rois_in_unit

/-!
# The range of the regions of interest

The precondition says that every entry is at least zero and below one; so every entry is a real number in that range.
-/

@[expose] public section

noncomputable section

namespace Cert.Roi

open Idealize.ShloMosaic

/-- Two bits whose conjunction is set are both set. -/
theorem and_bit {a b : BitVec 1} (h : IntOp.andi a b = 1#1) : a = 1#1 ∧ b = 1#1 := by
  revert a b; decide

theorem inUnit_of_pre (x : Cert.Pre_rois_in_unit.S2x256x64x64.Idx → EReal) (y : Cert.Pre_rois_in_unit.S1000x5.Idx → EReal)
    (h : Cert.Pre_rois_in_unit.fn (F := Ideal) x y = fun _ => 1#1) : InUnit y (fun n k => (y (ix2 n k)).toReal) := by
  have key (n : Fin 1000) (k : Fin 5) : 0 ≤ y (ix2 n k) ∧ y (ix2 n k) < 1 := by
    have e := congrFun h (ix2 n k)
    revert e
    pointwise [Cert.Pre_rois_in_unit.fn]
    intro e
    obtain ⟨a, b⟩ := and_bit e
    constructor
    · by_contra hn
      simp [hn] at a
    · by_contra hn
      simp [hn] at b
  have real (n : Fin 1000) (k : Fin 5) : (((y (ix2 n k)).toReal : ℝ) : EReal) = y (ix2 n k) :=
    EReal.coe_toReal (ne_top_of_lt (key n k).2) (ne_bot_of_gt (lt_of_lt_of_le EReal.bot_lt_zero (key n k).1))
  refine ⟨fun n k => (real n k).symm, fun n k => ?_, fun n k => ?_⟩
  · have := (key n k).1
    rw [← real n k] at this
    exact_mod_cast this
  · have := (key n k).2
    rw [← real n k] at this
    exact_mod_cast this

end Cert.Roi

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rois_in_unit
public import Idealize.ShloMosaic.Adequacy
public import Idealize.ShloMosaic.Init
public import Idealize.ShloMosaic.Lib.Quiescent
public import proofs.«01_k».proof.Proof.KerRun
public import proofs.«01_k».proof.Proof.Range

@[expose] public section

noncomputable section

namespace Cert.Proof

open Idealize.ShloMosaic Idealize.SL.Sem

/-- The reference keeps its arguments, and has no counter to leave set. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems rfl _⟩) (Cert.ReferenceIdeal.Value.run m g)

/-- The kernel program and the reference compute the same array, entry by entry the same sum of nine products. -/
theorem algebraic : Cert.algebraic_KernelIdeal_ReferenceIdeal_pre_rois_in_unit
    (hKernelIdeal := Cert.KernelIdeal.Gen.facts) (hReferenceIdeal := Cert.ReferenceIdeal.Gen.facts)
    (hPre_rois_in_unit := Cert.Pre_rois_in_unit.Gen.facts) := by
  intro m g m' g' hpre hargs
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v0, ?_, ?_⟩
  · exact (θ_run _ _ _).mono (fun _ h c =>
      ⟨(h c).2 Cert.KernelIdeal.main_v0 (Pipeline.mem_restRefs_of Cert.KernelIdeal.main_v0 (by decide) (by decide)),
       ((h c).2 Cert.KernelIdeal.main_arg0 (Pipeline.mem_restRefs_of Cert.KernelIdeal.main_arg0 (by decide) (by decide))).trans (Cert.KernelIdeal.Gen.W_main_arg0 m (Cert.KernelIdeal.Gen.dats m) c),
       ((h c).2 Cert.KernelIdeal.main_arg1 (Pipeline.mem_restRefs_of Cert.KernelIdeal.main_arg1 (by decide) (by decide))).trans (Cert.KernelIdeal.Gen.W_main_arg1 m (Cert.KernelIdeal.Gen.dats m) c)⟩)
      (Cert.KernelIdeal.Gen.run_main m g)
  · refine (θ_run _ _ _).mono (fun _ h c => ⟨(h c).1.trans ?_, (h c).2⟩) (Cert.ReferenceIdeal.Value.run m' g')
    have hK := Cert.Roi.inUnit_of_pre _ _ (hpre c)
    have hR : Cert.Roi.InUnit (m' ((c.tc : Thread Cert.ReferenceIdeal.nD Cert.ReferenceIdeal.τ).loc Cert.ReferenceIdeal.main_arg1))
        (fun n k => (m ((c.tc : Thread Cert.KernelIdeal.nD Cert.KernelIdeal.τ).loc Cert.KernelIdeal.main_arg1) (ix2 n k)).toReal) := by
      rw [(hargs c).2]
      exact hK
    funext i
    obtain ⟨n, ch, p, q, rfl⟩ : ∃ n ch p q, i = ix4 n ch p q := ⟨i 0, i 1, i 2, i 3, by funext k; fin_cases k <;> rfl⟩
    refine (Cert.Roi.mean_apply (StableHlo.launchContents m' c) hR n ch p q).trans ?_
    refine Eq.trans ?_ (Cert.Roi.result_apply m c hK n ch p q).symm
    exact congrArg (fun x => Cert.Roi.spec x _ n ch p q) (hargs c).1

theorem claim : Cert.Claim :=
  ⟨Cert.Kernel.Gen.facts, Cert.KernelIdeal.Gen.facts, Cert.ReferenceIdeal.Gen.facts, Cert.Pre_rois_in_unit.Gen.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    IdealRules.named_const.statement Cert.KernelIdeal.κ "half_bin" .f32 0x3D924925#32 ((1 / 14 : ℝ) : EReal) rfl,
    algebraic⟩

end Cert.Proof

end
